-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768x12x64 : Shape := ⟨3, ![768, 12, 64]⟩
abbrev S12x64 : Shape := ⟨2, ![12, 64]⟩
abbrev S12x64x768 : Shape := ⟨3, ![12, 64, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x12x64 : S_.BroadcastsInDim S768x12x64 (![] : Fin 0 → Fin S768x12x64.rank)
  reducesTo_S768x12x64_S_d0_1_2 : S768x12x64.ReducesTo [0, 1, 2] S_
  bcast_S_S12x64 : S_.BroadcastsInDim S12x64 (![] : Fin 0 → Fin S12x64.rank)
  reducesTo_S12x64_S_d0_1 : S12x64.ReducesTo [0, 1] S_

variable [Facts]

def fn_part1 {F : FTy → Type} [FloatOps F] (main_arg4 : FVec F S12x64 .f32) (main_v13 : IVec S_ 1) (main_v16 : IVec S768x12x64 1) : IVec S_ 1 :=
  let main_c_5 : IVec S_ 1 := constantI S_ 1 1#1
  let main_v17 : IVec S_ 1 := (fun x v => Host.reduce IntOp.andi x v reducesTo_S768x12x64_S_d0_1_2 h_S_) main_v16 main_c_5
  let main_v18 : IVec S_ 1 := andi main_v13 main_v17
  let main_v19 : FVec F S12x64 .f32 := Host.absf main_arg4
  let main_cst_6 : FVec F S_ .f32 := constant S_ .f32 0x7F800000#32
  let main_v20 : FVec F S12x64 .f32 := broadcastInDim S12x64 ![] bcast_S_S12x64 main_cst_6
  let main_v21 : IVec S12x64 1 := cmpf .olt main_v19 main_v20
  let main_c_7 : IVec S_ 1 := constantI S_ 1 1#1
  let main_v22 : IVec S_ 1 := (fun x v => Host.reduce IntOp.andi x v reducesTo_S12x64_S_d0_1 h_S_) main_v21 main_c_7
  let main_v23 : IVec S_ 1 := andi main_v18 main_v22
  main_v23

def fn {F : FTy → Type} [FloatOps F] (main_arg0 : FVec F S1x2048x768 .f32) (main_arg1 : FVec F S768x12x64 .f32) (main_arg2 : FVec F S12x64 .f32) (main_arg3 : FVec F S768x12x64 .f32) (main_arg4 : FVec F S12x64 .f32) (main_arg5 : FVec F S768x12x64 .f32) (main_arg6 : FVec F S12x64 .f32) (main_arg7 : FVec F S12x64x768 .f32) (main_arg8 : FVec F S768 .f32) (main_arg9 : FVec F S768 .f32) (main_arg10 : FVec F S768 .f32) (main_arg11 : FVec F S768 .f32) (main_arg12 : FVec F S768 .f32) (main_arg13 : FVec F S768x3072 .f32) (main_arg14 : FVec F S3072 .f32) (main_arg15 : FVec F S3072x768 .f32) (main_arg16 : FVec F S768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x12x64 .f32 := Host.absf main_arg1
  let main_cst_0 : FVec F S_ .f32 := constant S_ .f32 0x7F800000#32
  let main_v5 : FVec F S768x12x64 .f32 := broadcastInDim S768x12x64 ![] bcast_S_S768x12x64 main_cst_0
  let main_v6 : IVec S768x12x64 1 := cmpf .olt main_v4 main_v5
  let main_c_1 : IVec S_ 1 := constantI S_ 1 1#1
  let main_v7 : IVec S_ 1 := (fun x v => Host.reduce IntOp.andi x v reducesTo_S768x12x64_S_d0_1_2 h_S_) main_v6 main_c_1
  let main_v8 : IVec S_ 1 := andi main_v3 main_v7
  let main_v9 : FVec F S12x64 .f32 := Host.absf main_arg2
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  let main_v14 : FVec F S768x12x64 .f32 := Host.absf main_arg3
  let main_cst_4 : FVec F S_ .f32 := constant S_ .f32 0x7F800000#32
  let main_v15 : FVec F S768x12x64 .f32 := broadcastInDim S768x12x64 ![] bcast_S_S768x12x64 main_cst_4
  let main_v16 : IVec S768x12x64 1 := cmpf .olt main_v14 main_v15
  fn_part1 (F := F) main_arg4 main_v13 main_v16
-- ==== Kernel.lean ====
abbrev S1x2048x768 : Shape := ⟨3, ![1, 2048, 768]⟩
abbrev S768x12x64 : Shape := ⟨3, ![768, 12, 64]⟩
abbrev S12x64 : Shape := ⟨2, ![12, 64]⟩
abbrev S12x64x768 : Shape := ⟨3, ![12, 64, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2048x768 : Shape := ⟨2, ![2048, 768]⟩
abbrev S768x768 : Shape := ⟨2, ![768, 768]⟩
abbrev S1x768 : Shape := ⟨2, ![1, 768]⟩
abbrev S1x3072 : Shape := ⟨2, ![1, 3072]⟩
abbrev S768x256 : Shape := ⟨2, ![768, 256]⟩
abbrev S1x256 : Shape := ⟨2, ![1, 256]⟩
abbrev S2048x256 : Shape := ⟨2, ![2048, 256]⟩
abbrev S64x256 : Shape := ⟨2, ![64, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S512x256 : Shape := ⟨2, ![512, 256]⟩
abbrev S256x512 : Shape := ⟨2, ![256, 512]⟩
abbrev S256x768 : Shape := ⟨2, ![256, 768]⟩
abbrev S256x3072 : Shape := ⟨2, ![256, 3072]⟩

abbrev nBuf : Space → Nat
  | .hbm => 42
  | .vmem => 31
  | .smem => 0
  | _ => 0

abbrev bufTy : (tb : Table) → Fin (tcTables nBuf tb) → BufTy
  | .hbm, ⟨0, _⟩ => ⟨S1x2048x768, .f32⟩
  | .hbm, ⟨1, _⟩ => ⟨S768x12x64, .f32⟩
  | .hbm, ⟨2, _⟩ => ⟨S12x64, .f32⟩
  | .hbm, ⟨3, _⟩ => ⟨S768x12x64, .f32⟩
  | .hbm, ⟨4, _⟩ => ⟨S12x64, .f32⟩
  | .hbm, ⟨5, _⟩ => ⟨S768x12x64, .f32⟩
  | .hbm, ⟨6, _⟩ => ⟨S12x64, .f32⟩
  | .hbm, ⟨7, _⟩ => ⟨S12x64x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768x3072, .f32⟩
  | .hbm, ⟨14, _⟩ => ⟨S3072, .f32⟩
  | .hbm, ⟨15, _⟩ => ⟨S3072x768, .f32⟩
  | .hbm, ⟨16, _⟩ => ⟨S768, .f32⟩
  | .hbm, ⟨17, _⟩ => ⟨S2048x768, .f32⟩
  | .hbm, ⟨18, _⟩ => ⟨S2048x768, .bf16⟩
  | .hbm, ⟨19, _⟩ => ⟨S768x768, .f32⟩
  | .hbm, ⟨20, _⟩ => ⟨S768x768, .bf16⟩
  | .hbm, ⟨21, _⟩ => ⟨S768x768, .f32⟩
  | .hbm, ⟨22, _⟩ => ⟨S768x768, .bf16⟩
  | .hbm, ⟨23, _⟩ => ⟨S768x768, .f32⟩
  | .hbm, ⟨24, _⟩ => ⟨S768x768, .bf16⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S2048x768, .bf16⟩
  | .hbm, ⟨29, _⟩ => ⟨S768x768, .f32⟩
  | .hbm, ⟨30, _⟩ => ⟨S768x768, .bf16⟩
  | .hbm, ⟨31, _⟩ => ⟨S1x768, .f32⟩
  | .hbm, ⟨32, _⟩ => ⟨S1x768, .f32⟩
  | .hbm, ⟨33, _⟩ => ⟨S1x768, .f32⟩
  | .hbm, ⟨34, _⟩ => ⟨S768x3072, .bf16⟩
  | .hbm, ⟨35, _⟩ => ⟨S1x3072, .f32⟩
  | .hbm, ⟨36, _⟩ => ⟨S3072x768, .bf16⟩
  | .hbm, ⟨37, _⟩ => ⟨S1x768, .f32⟩
  | .hbm, ⟨38, _⟩ => ⟨S1x768, .f32⟩
  | .hbm, ⟨39, _⟩ => ⟨S1x768, .f32⟩
  | .hbm, ⟨40, _⟩ => ⟨S2048x768, .f32⟩
  | .hbm, ⟨41, _⟩ => ⟨S1x2048x768, .f32⟩
  | .local _ .vmem, ⟨0, _⟩ => ⟨S2048x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S768x256, .bf16⟩
  | .local _ .vmem, ⟨5, _⟩ => ⟨S768x256, .bf16⟩
  | .local _ .vmem, ⟨6, _⟩ => ⟨S768x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .bf16⟩
  | .local _ .vmem, ⟨14, _⟩ => ⟨S2048x256, .bf16⟩
  | .local _ .vmem, ⟨15, _⟩ => ⟨S256x768, .f32⟩
  | .local _ .vmem, ⟨16, _⟩ => ⟨S256x768, .f32⟩
  | .local _ .vmem, ⟨17, _⟩ => ⟨S256x768, .bf16⟩
  | .local _ .vmem, ⟨18, _⟩ => ⟨S256x768, .bf16⟩
  | .local _ .vmem, ⟨19, _⟩ => ⟨S768x768, .bf16⟩
  | .local _ .vmem, ⟨20, _⟩ => ⟨S1x768, .f32⟩
  | .local _ .vmem, ⟨21, _⟩ => ⟨S1x768, .f32⟩
  | .local _ .vmem, ⟨22, _⟩ => ⟨S1x768, .f32⟩
  | .local _ .vmem, ⟨23, _⟩ => ⟨S768x3072, .bf16⟩
  | .local _ .vmem, ⟨24, _⟩ => ⟨S1x3072, .f32⟩
  | .local _ .vmem, ⟨25, _⟩ => ⟨S3072x768, .bf16⟩
  | .local _ .vmem, ⟨26, _⟩ => ⟨S1x768, .f32⟩
  | .local _ .vmem, ⟨27, _⟩ => ⟨S1x768, .f32⟩
  | .local _ .vmem, ⟨28, _⟩ => ⟨S1x768, .f32⟩
  | .local _ .vmem, ⟨29, _⟩ => ⟨S256x768, .f32⟩
  | .local _ .vmem, ⟨30, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_v0 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg12_1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem12_1 : DmaSem sig := 30

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768x3072 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x3072 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3072x768 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x768 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S768x12x64 : Shape := ⟨3, ![768, 12, 64]⟩
abbrev S12x64 : Shape := ⟨2, ![12, 64]⟩
abbrev S12x64x768 : Shape := ⟨3, ![12, 64, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S32x32 : Shape := ⟨2, ![32, 32]⟩
abbrev S32x1x32x1 : Shape := ⟨4, ![32, 1, 32, 1]⟩
abbrev S32x64x32x64 : Shape := ⟨4, ![32, 64, 32, 64]⟩
abbrev S2048x2048 : Shape := ⟨2, ![2048, 2048]⟩
abbrev S12x64x1x2048 : Shape := ⟨4, ![12, 64, 1, 2048]⟩
abbrev S1x12x2048x64 : Shape := ⟨4, ![1, 12, 2048, 64]⟩
abbrev S1x12x1x64 : Shape := ⟨4, ![1, 12, 1, 64]⟩
abbrev S1x12x2048x2048 : Shape := ⟨4, ![1, 12, 2048, 2048]⟩
abbrev S_ : Shape := ⟨0, ![]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S1x12x64x2048 : Shape := ⟨4, ![1, 12, 64, 2048]⟩
abbrev S1x2048x12x64 : Shape := ⟨4, ![1, 2048, 12, 64]⟩
abbrev S1x1x768 : Shape := ⟨3, ![1, 1, 768]⟩
abbrev S1x2048 : Shape := ⟨2, ![1, 2048]⟩
abbrev S1x2048x1 : Shape := ⟨3, ![1, 2048, 1]⟩
abbrev S1x2048x3072 : Shape := ⟨3, ![1, 2048, 3072]⟩
abbrev S1x1x3072 : Shape := ⟨3, ![1, 1, 3072]⟩

abbrev nBuf : Space → Nat
  | .hbm => 138
  | .vmem => 0
  | .smem => 0
  | _ => 0

abbrev hbmTy0_0 (i : Nat) : BufTy := match i % 128 with
  | 0 => ⟨S1x2048x768, .f32⟩
  | 1 => ⟨S768x12x64, .f32⟩
  | 2 => ⟨S12x64, .f32⟩
  | 3 => ⟨S768x12x64, .f32⟩
  | 4 => ⟨S12x64, .f32⟩
  | 5 => ⟨S768x12x64, .f32⟩
  | 6 => ⟨S12x64, .f32⟩
  | 7 => ⟨S12x64x768, .f32⟩
  | 8 => ⟨S768, .f32⟩
  | 9 => ⟨S768, .f32⟩
  | 10 => ⟨S768, .f32⟩
  | 11 => ⟨S768, .f32⟩
  | 12 => ⟨S768, .f32⟩
  | 13 => ⟨S768x3072, .f32⟩
  | 14 => ⟨S3072, .f32⟩
  | 15 => ⟨S3072x768, .f32⟩
  | 16 => ⟨S768, .f32⟩
  | 17 => ⟨S32x32, .i1⟩
  | 18 => ⟨S32x1x32x1, .i1⟩
  | 19 => ⟨S32x64x32x64, .i1⟩
  | 20 => ⟨S2048x2048, .i1⟩
  | 21 => ⟨S12x64x1x2048, .f32⟩
  | 22 => ⟨S1x12x2048x64, .f32⟩
  | 23 => ⟨S1x12x1x64, .f32⟩
  | 24 => ⟨S1x12x2048x64, .f32⟩
  | 25 => ⟨S1x12x2048x64, .f32⟩
  | 26 => ⟨S12x64x1x2048, .f32⟩
  | 27 => ⟨S1x12x2048x64, .f32⟩
  | 28 => ⟨S1x12x1x64, .f32⟩
  | 29 => ⟨S1x12x2048x64, .f32⟩
  | 30 => ⟨S1x12x2048x64, .f32⟩
  | 31 => ⟨S12x64x1x2048, .f32⟩
  | 32 => ⟨S1x12x2048x64, .f32⟩
  | 33 => ⟨S1x12x1x64, .f32⟩
  | 34 => ⟨S1x12x2048x64, .f32⟩
  | 35 => ⟨S1x12x2048x64, .f32⟩
  | 36 => ⟨S1x12x2048x2048, .f32⟩
  | 37 => ⟨S_, .f32⟩
  | 38 => ⟨S_, .f32⟩
  | 39 => ⟨S1x12x2048x2048, .f32⟩
  | 40 => ⟨S1x12x2048x2048, .f32⟩
  | 41 => ⟨S1x1x2048x2048, .i1⟩
  | 42 => ⟨S_, .f32⟩
  | 43 => ⟨S_, .f32⟩
  | 44 => ⟨S1x12x2048x2048, .i1⟩
  | 45 => ⟨S1x12x2048x2048, .f32⟩
  | 46 => ⟨S1x12x2048x2048, .f32⟩
  | 47 => ⟨S_, .f32⟩
  | 48 => ⟨S1x12x2048, .f32⟩
  | 49 => ⟨S_, .f32⟩
  | 50 => ⟨S1x12x2048, .f32⟩
  | 51 => ⟨S1x12x2048, .f32⟩
  | 52 => ⟨S1x12x2048x1, .f32⟩
  | 53 => ⟨S1x12x2048x2048, .f32⟩
  | 54 => ⟨S1x12x2048x2048, .f32⟩
  | 55 => ⟨S1x12x2048x2048, .f32⟩
  | 56 => ⟨S_, .f32⟩
  | 57 => ⟨S1x12x2048, .f32⟩
  | 58 => ⟨S1x12x2048x1, .f32⟩
  | 59 => ⟨S1x12x2048x2048, .f32⟩
  | 60 => ⟨S1x12x2048x2048, .f32⟩
  | 61 => ⟨S1x12x64x2048, .f32⟩
  | 62 => ⟨S1x2048x12x64, .f32⟩
  | 63 => ⟨S1x2048x768, .f32⟩
  | 64 => ⟨S1x1x768, .f32⟩
  | 65 => ⟨S1x2048x768, .f32⟩
  | 66 => ⟨S1x2048x768, .f32⟩
  | 67 => ⟨S1x2048x768, .f32⟩
  | 68 => ⟨S_, .f32⟩
  | 69 => ⟨S1x2048, .f32⟩
  | 70 => ⟨S1x2048x1, .f32⟩
  | 71 => ⟨S_, .f32⟩
  | 72 => ⟨S1x2048x1, .f32⟩
  | 73 => ⟨S1x2048x1, .f32⟩
  | 74 => ⟨S1x2048x768, .f32⟩
  | 75 => ⟨S1x2048x768, .f32⟩
  | 76 => ⟨S1x2048x768, .f32⟩
  | 77 => ⟨S_, .f32⟩
  | 78 => ⟨S1x2048, .f32⟩
  | 79 => ⟨S1x2048x1, .f32⟩
  | 80 => ⟨S_, .f32⟩
  | 81 => ⟨S1x2048x1, .f32⟩
  | 82 => ⟨S1x2048x1, .f32⟩
  | 83 => ⟨S1x2048x768, .f32⟩
  | 84 => ⟨S1x2048x768, .f32⟩
  | 85 => ⟨S_, .f32⟩
  | 86 => ⟨S1x2048x1, .f32⟩
  | 87 => ⟨S1x2048x1, .f32⟩
  | 88 => ⟨S1x2048x1, .f32⟩
  | 89 => ⟨S1x2048x768, .f32⟩
  | 90 => ⟨S1x2048x768, .f32⟩
  | 91 => ⟨S1x1x768, .f32⟩
  | 92 => ⟨S1x2048x768, .f32⟩
  | 93 => ⟨S1x2048x768, .f32⟩
  | 94 => ⟨S1x1x768, .f32⟩
  | 95 => ⟨S1x2048x768, .f32⟩
  | 96 => ⟨S1x2048x768, .f32⟩
  | 97 => ⟨S1x2048x3072, .f32⟩
  | 98 => ⟨S1x1x3072, .f32⟩
  | 99 => ⟨S1x2048x3072, .f32⟩
  | 100 => ⟨S1x2048x3072, .f32⟩
  | 101 => ⟨S_, .f32⟩
  | 102 => ⟨S1x2048x3072, .f32⟩
  | 103 => ⟨S1x2048x3072, .f32⟩
  | 104 => ⟨S1x2048x768, .f32⟩
  | 105 => ⟨S1x1x768, .f32⟩
  | 106 => ⟨S1x2048x768, .f32⟩
  | 107 => ⟨S1x2048x768, .f32⟩
  | 108 => ⟨S1x2048x768, .f32⟩
  | 109 => ⟨S_, .f32⟩
  | 110 => ⟨S1x2048, .f32⟩
  | 111 => ⟨S1x2048x1, .f32⟩
  | 112 => ⟨S_, .f32⟩
  | 113 => ⟨S1x2048x1, .f32⟩
  | 114 => ⟨S1x2048x1, .f32⟩
  | 115 => ⟨S1x2048x768, .f32⟩
  | 116 => ⟨S1x2048x768, .f32⟩
  | 117 => ⟨S1x2048x768, .f32⟩
  | 118 => ⟨S_, .f32⟩
  | 119 => ⟨S1x2048, .f32⟩
  | 120 => ⟨S1x2048x1, .f32⟩
  | 121 => ⟨S_, .f32⟩
  | 122 => ⟨S1x2048x1, .f32⟩
  | 123 => ⟨S1x2048x1, .f32⟩
  | 124 => ⟨S1x2048x768, .f32⟩
  | 125 => ⟨S1x2048x768, .f32⟩
  | 126 => ⟨S_, .f32⟩
  | 127 => ⟨S1x2048x1, .f32⟩
  | _ => ⟨S1x2048x768, .f32⟩

abbrev hbmTy0_1 (i : Nat) : BufTy := match i % 128 with
  | 0 => ⟨S1x2048x1, .f32⟩
  | 1 => ⟨S1x2048x1, .f32⟩
  | 2 => ⟨S1x2048x768, .f32⟩
  | 3 => ⟨S1x2048x768, .f32⟩
  | 4 => ⟨S1x1x768, .f32⟩
  | 5 => ⟨S1x2048x768, .f32⟩
  | 6 => ⟨S1x2048x768, .f32⟩
  | 7 => ⟨S1x1x768, .f32⟩
  | 8 => ⟨S1x2048x768, .f32⟩
  | 9 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call1_cst : Ref sig .tc := ⟨.hbm, 101, rfl⟩
abbrev main_call1_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_9 : Ref sig .tc := ⟨.hbm, 109, rfl⟩
abbrev main_v76 : Ref sig .tc := ⟨.hbm, 110, rfl⟩
abbrev main_v77 : Ref sig .tc := ⟨.hbm, 111, rfl⟩
abbrev main_cst_10 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_11 : Ref sig .tc := ⟨.hbm, 118, rfl⟩
abbrev main_v83 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_13 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]
-- ==== Proof.Run.lean ====
/- The kernel's run over the extended reals: what every unscoped buffer holds at the end. -/
module

public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every fair execution of the kernel ends, and then every buffer outside the regions holds what the fold through
    the host stretches and the two regions says. -/
theorem kernel_run : θ_run (defs (F := Ideal)) (onTc (τ := τ) (main (F := Ideal))) ⟨m, fun _ => 0, ρ⟩ (fun r =>
      ∀ c : Dev nD, ∀ b ∈ Pipeline.ucRefs τ sig, r.2.mem ((c : Thread nD τ).1, b) = W5 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An argument array ends as launched. -/
theorem kept {s : (ℓ : Loc nD τ sig) → Buf (Elt Ideal) ℓ} {c : Dev nD}
    (h : ∀ b ∈ Pipeline.ucRefs τ sig, s ((c : Thread nD τ).1, b) = W5 m ρ c b) (a : Ref sig .tc)
    (hm : Proc.devRef .tc a ∈ Pipeline.ucRefs τ sig) (ha : a ∈ argRefs) :
    s ((c : Thread nD τ).loc a) = m ((c : Thread nD τ).loc a) :=
  (h _ hm).trans (W5_args m ρ c a ha)

end Cert.Attn
-- ==== Proof.Blocks.lean ====
/- The attention kernel's output block written uniformly: one function per query block, the 32 blocks joined. -/
module

public import proofs.«01_k».proof.Proof.Gen.KernelIdeal.Frame

@[expose] public section

set_option maxRecDepth 65536

noncomputable section

namespace Cert.Attn

open Idealize.ShloMosaic Idealize.ShloMosaic.TcCoe Idealize.ShloMosaic.Tactic
open Cert.KernelIdeal Cert.KernelIdeal.Gen
open Idealize.ShloMosaic.Pipeline (Dat Cfg Window cellOf)

variable {F : FTy → Type} [FloatOps F] [Named F]

/-- The key blocks each query block reads, in order; the rows of the two end blocks are not used. -/
def colTable : List (List Nat) := [
  [0, 0, 0, 0, 0, 0, 0, 0],
  [0, 1, 2, 5, 17, 25, 31, 31],
  [0, 1, 2, 3, 14, 15, 17, 31],
  [0, 2, 3, 4, 15, 23, 26, 31],
  [0, 3, 4, 5, 6, 20, 27, 31],
  [0, 4, 5, 6, 12, 15, 24, 31],
  [0, 5, 6, 7, 9, 20, 25, 31],
  [0, 2, 6, 7, 8, 11, 16, 31],
  [0, 4, 7, 8, 9, 19, 30, 31],
  [0, 8, 9, 10, 15, 25, 30, 31],
  [0, 5, 9, 10, 11, 15, 28, 31],
  [0, 7, 10, 11, 12, 22, 23, 31],
  [0, 1, 10, 11, 12, 13, 20, 31],
  [0, 2, 3, 12, 13, 14, 16, 31],
  [0, 2, 3, 13, 14, 15, 25, 31],
  [0, 5, 9, 14, 15, 16, 29, 31],
  [0, 3, 15, 16, 17, 18, 20, 31],
  [0, 3, 10, 16, 17, 18, 25, 31],
  [0, 1, 8, 10, 17, 18, 19, 31],
  [0, 14, 16, 18, 19, 20, 23, 31],
  [0, 2, 3, 19, 20, 21, 29, 31],
  [0, 8, 19, 20, 21, 22, 25, 31],
  [0, 15, 20, 21, 22, 23, 30, 31],
  [0, 7, 22, 23, 24, 25, 29, 31],
  [0, 1, 2, 23, 24, 25, 30, 31],
  [0, 1, 5, 18, 24, 25, 26, 31],
  [0, 1, 17, 24, 25, 26, 27, 31],
  [0, 9, 11, 14, 26, 27, 28, 31],
  [0, 6, 12, 21, 27, 28, 29, 31],
  [0, 15, 19, 27, 28, 29, 30, 31],
  [0, 2, 6, 9, 29, 30, 31, 31],
  [0, 0, 0, 0, 0, 0, 0, 0]]

/-- Key block number `a` of the eight that query block `i` reads. -/
def colAt (i a : Nat) : Nat := (colTable.getD i []).getD a 0

/-- Each key block number is one of the 32. -/
theorem colAt_lt (i : Fin 32) (a : Fin 8) : colAt i.val a.val < 32 := by
  revert i a; decide +kernel

/-- Query blocks 1 and 30 read seven different key blocks, and the seventh twice. -/
def padded (i : Nat) : Bool := Nat.beq i 1 || Nat.beq i 30

/-- Block `j` of 64 rows fits into 2048 rows. -/
theorem slices_cut (j : Nat) (hj : j < 32) : S2048x256.Slices ![64 * j, 0] S64x256 := by
  refine ⟨rfl, fun a => ?_⟩
  match a with
  | ⟨0, _⟩ => show 64 * j + 64 ≤ 2048; omega
  | ⟨1, _⟩ => show 0 + 256 ≤ 256; omega

/-- The rows `64 j` to `64 j + 63` of an array of 2048 rows. -/
def cut {φ : FTy} (x : FVec F S2048x256 φ) (j : Nat) (hj : j < 32) : FVec F S64x256 φ :=
  extractStridedSlice S64x256 ![64 * j, 0] x (slices_cut j hj)

/-- The rows of the eight key blocks that query block `i` reads, one block after another. -/
def gather (x : FVec F S2048x256 .bf16) (i : Fin 32) : FVec F S512x256 .bf16 :=
  concatenate S512x256 0
    [⟨S64x256, cut x (colAt i.val 0) (colAt_lt i 0)⟩, ⟨S64x256, cut x (colAt i.val 1) (colAt_lt i 1)⟩,
     ⟨S64x256, cut x (colAt i.val 2) (colAt_lt i 2)⟩, ⟨S64x256, cut x (colAt i.val 3) (colAt_lt i 3)⟩,
     ⟨S64x256, cut x (colAt i.val 4) (colAt_lt i 4)⟩, ⟨S64x256, cut x (colAt i.val 5) (colAt_lt i 5)⟩,
     ⟨S64x256, cut x (colAt i.val 6) (colAt_lt i 6)⟩, ⟨S64x256, cut x (colAt i.val 7) (colAt_lt i 7)⟩]
    concatenates_S64x256_S64x256_S64x256_S64x256_S64x256_S64x256_S64x256_S64x256_S512x256_d0

/-- Query block `i` of the four heads, one head after another. -/
def heads (q0 q1 q2 q3 : FVec F S2048x256 .bf16) (i : Fin 32) : FVec F S256x256 .bf16 :=
  concatenate S256x256 0
    [⟨S64x256, cut q0 i.val i.isLt⟩, ⟨S64x256, cut q1 i.val i.isLt⟩, ⟨S64x256, cut q2 i.val i.isLt⟩,
     ⟨S64x256, cut q3 i.val i.isLt⟩]
    concatenates_S64x256_S64x256_S64x256_S64x256_S256x256_d0

/-- The scores of 256 query rows against 512 key rows; with `msk` the last 64 are replaced by the mask's value. -/
def scores (msk : Bool) (q : FVec F S256x256 .bf16) (k : FVec F S512x256 .bf16) : FVec F S256x512 .f32 :=
  match msk with
  | false => matmul dot_S256x256_S512x256_S256x512_1_1_0_0_n_n none q k (constant S256x512 .f32 0x00000000#32)
  | true =>
    select (cmpi .slt (iota .tc S256x512 32 [1] iota_S256x512_d1_w32) (broadcast S256x512 448#32))
      (matmul dot_S256x256_S512x256_S256x512_1_1_0_0_n_n none q k (constant S256x512 .f32 0x00000000#32))
      (broadcast S256x512 (Named.named κ "mask" 0xCE6E6B28#32))

/-- Rows of weights from rows of scores: exponentials over their sum, the row's largest score subtracted first. -/
def weights (s : FVec F S256x512 .f32) : FVec F S256x512 .f32 :=
  let mx := multiReduction .maximumf [1] S256 s 0xFF800000#32 reduces_S256x512_S256 (.inl rfl) rfl
  let e := exp (subf s (broadcastTo S256x512 (shapeCast S256x1 mx shapeCasts_S256_S256x1) broadcasts_S256x1_S256x512))
  let sm := multiReduction .add [1] S256 e 0x00000000#32 reduces_S256x512_S256 (.inl rfl) rfl
  divf e (broadcastTo S256x512 (shapeCast S256x1 sm shapeCasts_S256_S256x1) broadcasts_S256x1_S256x512)

/-- The same over 2048 keys. -/
def weightsAll (s : FVec F S256x2048 .f32) : FVec F S256x2048 .f32 :=
  let mx := multiReduction .maximumf [1] S256 s 0xFF800000#32 reduces_S256x2048_S256 (.inl rfl) rfl
  let e := exp (subf s (broadcastTo S256x2048 (shapeCast S256x1 mx shapeCasts_S256_S256x1) broadcasts_S256x1_S256x2048))
  let sm := multiReduction .add [1] S256 e 0x00000000#32 reduces_S256x2048_S256 (.inl rfl) rfl
  divf e (broadcastTo S256x2048 (shapeCast S256x1 sm shapeCasts_S256_S256x1) broadcasts_S256x1_S256x2048)

/-- A middle block's weighted values, 64 rows per head. -/
def mid (msk : Bool) (q : FVec F S256x256 .bf16) (k v : FVec F S512x256 .bf16) : FVec F S256x256 .f32 :=
  matmul dot_S256x512_S512x256_S256x256_1_0_0_1_n_n none (truncf .bf16 (weights (scores msk q k)) bitsLt_bf16_f32) v
    (constant S256x256 .f32 0x00000000#32)

/-- An end block's weighted values, over all the keys. -/
def whole (q : FVec F S256x256 .bf16) (k v : FVec F S2048x256 .bf16) : FVec F S256x256 .f32 :=
  matmul dot_S256x2048_S2048x256_S256x256_1_0_0_1_n_n none
    (truncf .bf16 (weightsAll (matmul dot_S256x256_S2048x256_S256x2048_1_1_0_0_n_n none q k
      (constant S256x2048 .f32 0x00000000#32))) bitsLt_bf16_f32) v
    (constant S256x256 .f32 0x00000000#32)

/-- Each lane takes the rows of its own head. -/
def pick (lane : IVec S64x256 32) (cs : FVec F S256x256 .f32) : FVec F S64x256 .bf16 :=
  truncf .bf16 (addf (addf (addf (addf (broadcast S64x256 (Scalar.ofBits .f32 0x00000000#32))
    (select (cmpi .eq lane (broadcast S64x256 0#32)) (extractStridedSlice S64x256 ![0, 0] cs slices_S256x256_o0_0_S64x256)
      (broadcast S64x256 (Scalar.ofBits .f32 0x00000000#32))))
    (select (cmpi .eq lane (broadcast S64x256 1#32)) (extractStridedSlice S64x256 ![64, 0] cs slices_S256x256_o64_0_S64x256)
      (broadcast S64x256 (Scalar.ofBits .f32 0x00000000#32))))
    (select (cmpi .eq lane (broadcast S64x256 2#32)) (extractStridedSlice S64x256 ![128, 0] cs slices_S256x256_o128_0_S64x256)
      (broadcast S64x256 (Scalar.ofBits .f32 0x00000000#32))))
    (select (cmpi .eq lane (broadcast S64x256 3#32)) (extractStridedSlice S64x256 ![192, 0] cs slices_S256x256_o192_0_S64x256)
      (broadcast S64x256 (Scalar.ofBits .f32 0x00000000#32)))) bitsLt_bf16_f32

/-- Rows `64 i` to `64 i + 63` of the result. -/
def block (lane : IVec S64x256 32) (q0 q1 q2 q3 k v : FVec F S2048x256 .bf16) (i : Fin 32) : FVec F S64x256 .bf16 :=
  pick lane (match Nat.beq i.val 0 || Nat.beq i.val 31 with
    | true => whole (heads q0 q1 q2 q3 i) k v
    | false => mid (padded i.val) (heads q0 q1 q2 q3 i) (gather k i) (gather v i))

/-- The 32 blocks, one after another. -/
def joined (f : Fin 32 → FVec F S64x256 .bf16) : FVec F S2048x256 .bf16 :=
  concatenate S2048x256 0
    [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩, ⟨S64x256, f 8⟩, ⟨S64x256, f 9⟩, ⟨S64x256, f 10⟩, ⟨S64x256, f 11⟩, ⟨S64x256, f 12⟩, ⟨S64x256, f 13⟩, ⟨S64x256, f 14⟩, ⟨S64x256, f 15⟩, ⟨S64x256, f 16⟩, ⟨S64x256, f 17⟩, ⟨S64x256, f 18⟩, ⟨S64x256, f 19⟩, ⟨S64x256, f 20⟩, ⟨S64x256, f 21⟩, ⟨S64x256, f 22⟩, ⟨S64x256, f 23⟩, ⟨S64x256, f 24⟩, ⟨S64x256, f 25⟩, ⟨S64x256, f 26⟩, ⟨S64x256, f 27⟩, ⟨S64x256, f 28⟩, ⟨S64x256, f 29⟩, ⟨S64x256, f 30⟩, ⟨S64x256, f 31⟩]
    concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S2048x256_d0

/-- What the attention kernel leaves in its output block is its 32 query blocks, one after another. -/
theorem out_eq (x0 : Vec F S2048x768 .bf16) (x1 x2 x3 : Vec F S768x256 .bf16) (x4 x5 x6 : Vec F S1x256 .f32) :
    out0_7 x0 x1 x2 x3 x4 x5 x6 = View.canon [⟨r0_3, joined (block (k0_pay185 x0 x1 x2 x3 x4 x5 x6)
      (k0_pay180 x0 x1 x2 x3 x4 x5 x6) (k0_pay181 x0 x1 x2 x3 x4 x5 x6) (k0_pay182 x0 x1 x2 x3 x4 x5 x6)
      (k0_pay183 x0 x1 x2 x3 x4 x5 x6) (k0_pay175 x0 x1 x2 x3 x4 x5 x6) (k0_pay176 x0 x1 x2 x3 x4 x5 x6))⟩] := by
  rfl

end Cert.Attn
-- ==== Proof.Soft.lean ====
/- Sums of weighted values over the extended reals: keys that are masked out may be left out. -/
module

public import Idealize.ShloMosaic.Lib.Pointwise
public import Idealize.ShloMosaic.Lib.IdealHost

@[expose] public section

noncomputable section

namespace Cert.Attn

open Idealize.ShloMosaic

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- The largest of finitely many values (`⊥` when there is none). -/
def top {N : Nat} (s : Fin N → EReal) : EReal := Finset.univ.fold max ⊥ s

/-- The weight of position `n`: the exponential of its score below the largest one, over the sum of them. -/
def weight {N : Nat} (s : Fin N → EReal) (n : Fin N) : EReal :=
  Ideal.div (Ideal.exp (s n - top s)) (∑ x, Ideal.exp (s x - top s))

theorem top_eq_sup {N : Nat} (s : Fin N → EReal) : top s = Finset.univ.sup s := rfl

theorem le_top' {N : Nat} (s : Fin N → EReal) (n : Fin N) : s n ≤ top s := by
  rw [top_eq_sup]; exact Finset.le_sup (Finset.mem_univ n)

/-- A sum over the positions kept equals the sum over the keys they stand for. -/
theorem sum_kept {N T : Nat} (P : Fin N → Prop) [DecidablePred P] (Q : Fin T → Prop) [DecidablePred Q] (f : Fin N → Fin T)
    (hf : ∀ n, P n → Q (f n)) (inj : ∀ a b, P a → P b → f a = f b → a = b) (sur : ∀ t, Q t → ∃ n, P n ∧ f n = t)
    (h : Fin T → EReal) :
    ∑ n, (if P n then h (f n) else 0) = ∑ t, (if Q t then h t else 0) := by
  rw [← Finset.sum_filter, ← Finset.sum_filter]
  refine Finset.sum_bij (fun n _ => f n) ?_ ?_ ?_ ?_
  · intro n hn; simpa using hf n (by simpa using hn)
  · intro a ha b hb hab; exact inj a b (by simpa using ha) (by simpa using hb) hab
  · intro t ht; obtain ⟨n, hn, e⟩ := sur t (by simpa using ht); exact ⟨n, by simpa using hn, e⟩
  · intro n _; rfl

/-- The largest score among the kept positions is the largest among the keys they stand for. -/
theorem top_kept {N T : Nat} (P : Fin N → Prop) [DecidablePred P] (Q : Fin T → Prop) [DecidablePred Q] (f : Fin N → Fin T)
    (hf : ∀ n, P n → Q (f n)) (sur : ∀ t, Q t → ∃ n, P n ∧ f n = t) (s : Fin T → EReal) :
    top (fun n => if P n then s (f n) else ⊥) = top (fun t => if Q t then s t else ⊥) := by
  rw [top_eq_sup, top_eq_sup]
  apply le_antisymm
  · refine Finset.sup_le fun n _ => ?_
    by_cases hn : P n
    · rw [if_pos hn]
      exact le_trans (by rw [if_pos (hf n hn)]) (Finset.le_sup (f := fun t => if Q t then s t else ⊥) (Finset.mem_univ (f n)))
    · rw [if_neg hn]; exact bot_le
  · refine Finset.sup_le fun t _ => ?_
    by_cases ht : Q t
    · obtain ⟨n, hn, rfl⟩ := sur t ht
      rw [if_pos ht]
      exact le_trans (by rw [if_pos hn]) (Finset.le_sup (f := fun n => if P n then s (f n) else ⊥) (Finset.mem_univ n))
    · rw [if_neg ht]; exact bot_le

theorem exp_nonneg (x : EReal) : 0 ≤ Ideal.exp x := by
  induction x with
  | bot => simp
  | top => simp
  | coe r => rw [Ideal.exp_coe]; exact_mod_cast (Real.exp_pos r).le

/-- WEIGHTED VALUES OVER THE KEPT KEYS. Positions `n` with `P n` stand one for one for the keys `t` with `Q t`; every
    other position and every other key has score `⊥`. Then both give the same weighted sum of values. -/
theorem weighted_kept {N T : Nat} (P : Fin N → Prop) [DecidablePred P] (Q : Fin T → Prop) [DecidablePred Q] (f : Fin N → Fin T)
    (hf : ∀ n, P n → Q (f n)) (inj : ∀ a b, P a → P b → f a = f b → a = b) (sur : ∀ t, Q t → ∃ n, P n ∧ f n = t)
    (n0 : Fin N) (hn0 : P n0) (s : Fin T → EReal) (hs : ∀ t, IsReal (s t)) (v : Fin T → EReal) :
    ∑ n, weight (fun n => if P n then s (f n) else ⊥) n * v (f n)
      = ∑ t, weight (fun t => if Q t then s t else ⊥) t * v t := by
  have hM := top_kept P Q f hf sur s
  obtain ⟨M, hM'⟩ : ∃ M, top (fun t => if Q t then s t else ⊥) = M := ⟨_, rfl⟩
  rw [hM'] at hM
  have hMtop : M ≠ ⊤ := by
    rw [← hM', top_eq_sup]
    refine ne_of_lt ((Finset.sup_lt_iff (by simp)).2 fun t _ => ?_)
    obtain ⟨r, hr⟩ := hs t
    by_cases ht : Q t
    · simp [ht, hr]
    · simp [ht]
  have hle : s (f n0) ≤ M := by
    have := le_top' (fun t => if Q t then s t else ⊥) (f n0)
    rw [hM'] at this; simpa [hf n0 hn0] using this
  obtain ⟨r0, hr0⟩ := hs (f n0)
  have hMbot : M ≠ ⊥ := by
    rintro rfl; rw [hr0] at hle; simp at hle
  lift M to ℝ using ⟨hMtop, hMbot⟩
  have ek : ∀ n : Fin N, Ideal.exp ((if P n then s (f n) else ⊥) - (M : EReal)) = if P n then Ideal.exp (s (f n) - M) else 0 := by
    intro n; split_ifs
    · rfl
    · rw [EReal.bot_sub, Ideal.exp_bot]
  have et : ∀ t : Fin T, Ideal.exp ((if Q t then s t else ⊥) - (M : EReal)) = if Q t then Ideal.exp (s t - M) else 0 := by
    intro t; split_ifs
    · rfl
    · rw [EReal.bot_sub, Ideal.exp_bot]
  obtain ⟨D, hD⟩ : ∃ D, ∑ t, (if Q t then Ideal.exp (s t - M) else 0) = D := ⟨_, rfl⟩
  have hD0 : D ≠ 0 := by
    rw [← hD]
    refine ne_of_gt (lt_of_lt_of_le ?_ (Finset.single_le_sum
      (f := fun t => if Q t then Ideal.exp (s t - M) else 0) ?_ (Finset.mem_univ (f n0))))
    · rw [if_pos (hf n0 hn0), hr0, ← EReal.coe_sub, Ideal.exp_coe]
      exact_mod_cast Real.exp_pos _
    · intro t _; split_ifs
      · exact exp_nonneg _
      · exact le_refl _
  have hDk := sum_kept P Q f hf inj sur (fun t => Ideal.exp (s t - M))
  rw [hD] at hDk
  have lhs : ∀ n, weight (fun n => if P n then s (f n) else ⊥) n * v (f n)
      = if P n then Ideal.div (Ideal.exp (s (f n) - M)) D * v (f n) else 0 := by
    intro n; unfold weight; rw [hM]; simp only [ek]; rw [hDk]
    split_ifs
    · rfl
    · rw [Ideal.zero_div hD0, zero_mul]
  have rhs : ∀ t, weight (fun t => if Q t then s t else ⊥) t * v t
      = if Q t then Ideal.div (Ideal.exp (s t - M)) D * v t else 0 := by
    intro t; unfold weight; rw [hM']; simp only [et]; rw [hD]
    split_ifs
    · rfl
    · rw [Ideal.zero_div hD0, zero_mul]
  rw [Finset.sum_congr rfl fun n _ => lhs n, Finset.sum_congr rfl fun t _ => rhs t]
  exact sum_kept P Q f hf inj sur fun t => Ideal.div (Ideal.exp (s t - M)) D * v t

theorem lit_eighth : Ideal.ofBits .f32 0x3E000000#32 = ((1 / 8 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

/-- Lane `e` of head `h` among four heads of 64 lanes. -/
def lane4 (h : Fin 4) (e : Fin 64) : Fin 256 := ⟨64 * h.val + e.val, by omega⟩

/-- A SCORE. Over all 256 lanes with an eighth of the query on the head's own lanes and nothing on the others, it is the
    head's own product over the root of 64. -/
theorem score_eq (q k : Fin 256 → EReal) (hq : ∀ c, IsReal (q c)) (hk : ∀ c, IsReal (k c)) (h : Fin 4) :
    ∑ c : Fin 256, (q c * (if c.val / 64 = h.val then Ideal.ofBits .f32 0x3E000000#32 else 0)) * k c
      = Ideal.div (∑ e : Fin 64, q (lane4 h e) * k (lane4 h e)) (Ideal.sqrt (Ideal.ofBits .f32 0x42800000#32)) := by
  choose a ha using hq
  choose b hb using hk
  have h8 : Real.sqrt 64 = 8 := by
    rw [show (64 : ℝ) = 8 ^ 2 by norm_num]; exact Real.sqrt_sq (by norm_num)
  rw [lit_64, Ideal.sqrt_coe, if_neg (by norm_num), h8, Ideal.div_coe (by norm_num), lit_eighth]
  have e1 : ∀ c : Fin 256, (q c * (if c.val / 64 = h.val then ((1 / 8 : ℝ) : EReal) else 0)) * k c
      = ((a c * (if c.val / 64 = h.val then 1 / 8 else 0) * b c : ℝ) : EReal) := by
    intro c; rw [ha, hb]; split_ifs <;> push_cast <;> rfl
  rw [Finset.sum_congr rfl fun c _ => e1 c, ← coe_sum]
  have e2 : ∀ e : Fin 64, q (lane4 h e) * k (lane4 h e) = ((a (lane4 h e) * b (lane4 h e) : ℝ) : EReal) := by
    intro e; rw [ha, hb]; push_cast; rfl
  rw [Finset.sum_congr rfl fun e _ => e2 e, ← coe_sum, ← EReal.coe_mul, EReal.coe_eq_coe_iff]
  rw [← (finProdFinEquiv (m := 4) (n := 64)).sum_comp, Fintype.sum_prod_type, Finset.sum_eq_single h]
  · rw [Finset.sum_mul]
    refine Finset.sum_congr rfl fun e _ => ?_
    have hl : (finProdFinEquiv (h, e) : Fin (4 * 64)) = lane4 h e := Fin.ext (by simp [finProdFinEquiv, lane4]; omega)
    have hd : (lane4 h e).val / 64 = h.val := by simp only [lane4]; omega
    rw [hl]
    show a (lane4 h e) * (if (lane4 h e).val / 64 = h.val then 1 / 8 else 0) * b (lane4 h e) = _
    rw [if_pos hd]; ring
  · intro h' _ hne
    refine Finset.sum_eq_zero fun e _ => ?_
    have hv : (finProdFinEquiv (h', e) : Fin (4 * 64)).val / 64 ≠ h.val := by
      simp only [finProdFinEquiv, Equiv.coe_fn_mk]
      have := Fin.val_ne_of_ne hne
      omega
    rw [if_neg hv]; ring
  · intro hh; exact absurd (Finset.mem_univ _) hh

end Cert.Attn
-- ==== Proof.Read.lean ====
/- The attention kernel's block functions read at an index, over the ideal numbers. -/
module

public import proofs.«01_k».proof.Proof.Blocks
public import proofs.«01_k».proof.Proof.Soft
public import Idealize.ShloMosaic.Lib.Pointwise
public import Idealize.ShloMosaic.Lib.Pipeline.Value

@[expose] public section

set_option maxRecDepth 16384

noncomputable section

namespace Cert.Attn

open Idealize.ShloMosaic Idealize.ShloMosaic.TcCoe Idealize.ShloMosaic.Tactic
open Cert.KernelIdeal Cert.KernelIdeal.Gen

/-! ## Rows cut out and put together -/

/-- Row `b` of block `j` is row `64 j + b`. -/
theorem cut_apply {φ : FTy} (x : FVec Ideal S2048x256 φ) (j : Nat) (hj : j < 32) (b : Fin 64) (c : Fin 256) :
    cut x j hj (ix2 b c) = x (ix2 ⟨64 * j + b.val, by omega⟩ c) := by
  unfold cut; pointwise []

/-- The key row that stands at position `n` of query block `i`'s gathered rows. -/
def keyRow (i : Fin 32) (n : Fin 512) : Fin 2048 :=
  ⟨64 * colAt i.val (n.val / 64) + n.val % 64, by
    have := colAt_lt i ⟨n.val / 64, by omega⟩
    simp only at this
    omega⟩

/-- The gathered rows at an index. -/
theorem gather_apply (x : FVec Ideal S2048x256 .bf16) (i : Fin 32) (n : Fin 512) (c : Fin 256) :
    gather x i (ix2 n c) = x (ix2 (keyRow i n) c) := by
  have h := concatenate_ofFn_apply (t := S512x256) (s₁ := S64x256) 0
    (fun a : Fin 8 => cut x (colAt i.val a.val) (colAt_lt i a))
    concatenates_S64x256_S64x256_S64x256_S64x256_S64x256_S64x256_S64x256_S64x256_S512x256_d0
    rfl 64 rfl (ix2 n c) ⟨n.val / 64, by omega⟩ rfl (ix2 ⟨n.val % 64, by omega⟩ c) rfl
    (fun b hb => by
      match b with
      | ⟨0, _⟩ => exact absurd rfl hb
      | ⟨1, _⟩ => rfl)
  refine Eq.trans ?_ (h.trans (cut_apply ..))
  rfl

/-- The four heads' query rows at an index: row `r` belongs to head `r / 64`. -/
theorem heads_apply (q : Fin 4 → FVec Ideal S2048x256 .bf16) (i : Fin 32) (r : Fin 256) (c : Fin 256) :
    heads (q 0) (q 1) (q 2) (q 3) i (ix2 r c)
      = q ⟨r.val / 64, by omega⟩ (ix2 ⟨64 * i.val + r.val % 64, by omega⟩ c) := by
  have h := concatenate_ofFn_apply (t := S256x256) (s₁ := S64x256) 0
    (fun a : Fin 4 => cut (q a) i.val i.isLt)
    concatenates_S64x256_S64x256_S64x256_S64x256_S256x256_d0
    rfl 64 rfl (ix2 r c) ⟨r.val / 64, by omega⟩ rfl (ix2 ⟨r.val % 64, by omega⟩ c) rfl
    (fun b hb => by
      match b with
      | ⟨0, _⟩ => exact absurd rfl hb
      | ⟨1, _⟩ => rfl)
  refine Eq.trans ?_ (h.trans (cut_apply ..))
  rfl

/-- The joined blocks at an index: row `r` is row `r % 64` of block `r / 64`. -/
theorem joined_apply (f : Fin 32 → FVec Ideal S64x256 .bf16) (r : Fin 2048) (c : Fin 256) :
    joined f (ix2 r c) = f ⟨r.val / 64, by omega⟩ (ix2 ⟨r.val % 64, by omega⟩ c) := by
  have h := concatenate_ofFn_apply (t := S2048x256) (s₁ := S64x256) 0 f
    (by exact concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S2048x256_d0)
    rfl 64 rfl (ix2 r c) ⟨r.val / 64, by omega⟩ rfl (ix2 ⟨r.val % 64, by omega⟩ c) rfl
    (fun b hb => by
      match b with
      | ⟨0, _⟩ => exact absurd rfl hb
      | ⟨1, _⟩ => rfl)
  exact h

/-! ## Weighted values -/

theorem mask_bot : (Named.named κ "mask" 0xCE6E6B28#32 : Idealize.ShloMosaic.Ideal .f32) = (⊥ : EReal) :=
  IdealRules.named_const.ideal_named_scalar _ _ _ _ rfl

/-- The scores of a middle block: with `msk`, position 448 and on is masked. -/
theorem scores_apply (msk : Bool) (q : FVec Ideal S256x256 .bf16) (k : FVec Ideal S512x256 .bf16) (r : Fin 256) (n : Fin 512) :
    scores msk q k (ix2 r n)
      = if n.val < (if msk then 448 else 512) then ∑ c : Fin 256, q (ix2 r c) * k (ix2 n c) else ⊥ := by
  cases msk with
  | false =>
    rw [if_pos (by simpa using n.isLt)]
    unfold scores; pointwise []
  | true =>
    unfold scores; pointwise [mask_bot]
    rw [show IntOp.cmpi CmpIPredicate.slt (BitVec.ofNat 32 n.val) 448#32 = if n.val < 448 then 1#1 else 0#1 by
      revert n; decide +kernel]
    by_cases h : n.val < 448 <;> simp [h, Scalar.select]

/-- The weights of a middle block. -/
theorem weights_apply (s : FVec Ideal S256x512 .f32) (r : Fin 256) (n : Fin 512) :
    weights s (ix2 r n) = weight (fun n => s (ix2 r n)) n := by
  unfold weights weight top; pointwise []; rw [lit_bot]

/-- A middle block's weighted values. -/
theorem mid_apply (msk : Bool) (q : FVec Ideal S256x256 .bf16) (k v : FVec Ideal S512x256 .bf16) (r : Fin 256) (c : Fin 256) :
    mid msk q k v (ix2 r c) = ∑ n : Fin 512, weight (fun n : Fin 512 =>
      if n.val < (if msk then 448 else 512) then ∑ c : Fin 256, q (ix2 r c) * k (ix2 n c) else ⊥) n * v (ix2 n c) := by
  unfold mid; pointwise [weights_apply, scores_apply]

/-- An end block's weighted values. -/
theorem whole_apply (q : FVec Ideal S256x256 .bf16) (k v : FVec Ideal S2048x256 .bf16) (r : Fin 256) (c : Fin 256) :
    whole q k v (ix2 r c)
      = ∑ n : Fin 2048, weight (fun n : Fin 2048 => ∑ c : Fin 256, q (ix2 r c) * k (ix2 n c)) n * v (ix2 n c) := by
  unfold whole weightsAll weight top; pointwise []; rw [lit_bot]

/-- The lane's head as the kernel computes it: the quotient by 64 rounded down. -/
theorem lane_word (c : Fin 256) : Scalar.select
      (IntOp.andi
        (IntOp.cmpi CmpIPredicate.ne
          (IntOp.subi (BitVec.setWidth 32 (IntOp.cmpi CmpIPredicate.sgt (BitVec.ofNat 32 ↑c) 0#32))
            (BitVec.setWidth 32 (IntOp.cmpi CmpIPredicate.slt (BitVec.ofNat 32 ↑c) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑c) 64#32) 0#32))
      (IntOp.subi (IntOp.divsi ArithUnit.vector (BitVec.ofNat 32 ↑c) 64#32) 1#32)
      (IntOp.divsi ArithUnit.vector (BitVec.ofNat 32 ↑c) 64#32) = BitVec.ofNat 32 (c.val / 64) := by
  revert c; decide +kernel

/-- Comparing a lane's head with head `h`. -/
theorem head_word (c : Fin 256) (h : Fin 4) :
    IntOp.cmpi CmpIPredicate.eq (BitVec.ofNat 32 (c.val / 64)) (BitVec.ofNat 32 h.val)
      = if c.val / 64 = h.val then 1#1 else 0#1 := by
  revert c h; decide +kernel

/-- The lane vector at an index. -/
theorem lane_apply (x0 : Vec Ideal S2048x768 .bf16) (x1 x2 x3 : Vec Ideal S768x256 .bf16) (x4 x5 x6 : Vec Ideal S1x256 .f32)
    (b : Fin 64) (c : Fin 256) : k0_pay185 x0 x1 x2 x3 x4 x5 x6 (ix2 b c) = BitVec.ofNat 32 (c.val / 64) := by
  unfold k0_pay185 k0_pay184 k0_pay179 k0_pay14 k0_pay15; pointwise []; exact lane_word c

/-- A select on a decided comparison. -/
theorem select_ite {α : Type} (p : Prop) [Decidable p] (x y : α) :
    Scalar.select (if p then 1#1 else 0#1) x y = if p then x else y := by
  by_cases h : p <;> simp [h, Scalar.select]

/-- Each lane takes the rows of its own head. -/
theorem pick_apply (lane : IVec S64x256 32) (cs : FVec Ideal S256x256 .f32) (b : Fin 64) (c : Fin 256)
    (hl : lane (ix2 b c) = BitVec.ofNat 32 (c.val / 64)) :
    pick lane cs (ix2 b c) = cs (ix2 ⟨64 * (c.val / 64) + b.val, by omega⟩ c) := by
  unfold pick; pointwise []
  rw [hl]
  have e := head_word c
  rw [show IntOp.cmpi CmpIPredicate.eq (BitVec.ofNat 32 (c.val / 64)) 0#32 = _ from e 0,
    show IntOp.cmpi CmpIPredicate.eq (BitVec.ofNat 32 (c.val / 64)) 1#32 = _ from e 1,
    show IntOp.cmpi CmpIPredicate.eq (BitVec.ofNat 32 (c.val / 64)) 2#32 = _ from e 2,
    show IntOp.cmpi CmpIPredicate.eq (BitVec.ofNat 32 (c.val / 64)) 3#32 = _ from e 3]
  simp only [select_ite]
  have hc : c.val / 64 < 4 := by omega
  obtain ⟨h, hh⟩ : ∃ h, c.val / 64 = h := ⟨_, rfl⟩
  simp only [hh] at hc ⊢
  interval_cases h <;> simp

/-- The projected queries of one group of heads. -/
def proj (x : Vec Ideal S2048x768 .bf16) (w : Vec Ideal S768x256 .bf16) (b : Vec Ideal S1x256 .f32) (r : Fin 2048) (c : Fin 256) :
    EReal := ∑ d : Fin 768, x (ix2 r d) * w (ix2 d c) + b (ix2 0 c)

section
variable (x0 : Vec Ideal S2048x768 .bf16) (x1 x2 x3 : Vec Ideal S768x256 .bf16) (x4 x5 x6 : Vec Ideal S1x256 .f32)
  (r : Fin 2048) (c : Fin 256)

theorem ld0 : View.ld x0 r0_0 = x0 := View.ld_unit_zero (by funext a; match a with | 0 => rfl | 1 => rfl) _ _
theorem ld1 : View.ld x1 r0_1 = x1 := View.ld_unit_zero (by funext a; match a with | 0 => rfl | 1 => rfl) _ _
theorem ld2 : View.ld x4 r0_2 = x4 := View.ld_unit_zero (by funext a; match a with | 0 => rfl | 1 => rfl) _ _

theorem keys_apply : k0_pay175 x0 x1 x2 x3 x4 x5 x6 (ix2 r c) = proj x0 x2 x5 r c := by
  unfold k0_pay175 k0_pay5 k0_pay3 proj; rw [ld0, ld1, ld2]; pointwise []

theorem values_apply : k0_pay176 x0 x1 x2 x3 x4 x5 x6 (ix2 r c) = proj x0 x3 x6 r c := by
  unfold k0_pay176 k0_pay6 k0_pay3 proj; rw [ld0, ld1, ld2]; pointwise []

/-- The four heads' queries. -/
def queries (h : Fin 4) : FVec Ideal S2048x256 .bf16 :=
  ![k0_pay180 x0 x1 x2 x3 x4 x5 x6, k0_pay181 x0 x1 x2 x3 x4 x5 x6, k0_pay182 x0 x1 x2 x3 x4 x5 x6,
    k0_pay183 x0 x1 x2 x3 x4 x5 x6] h

/-- Head `h`'s queries: an eighth of the projected ones on the head's own lanes, zero on the others. -/
theorem queries_apply (h : Fin 4) : queries x0 x1 x2 x3 x4 x5 x6 h (ix2 r c)
    = proj x0 x1 x4 r c * (if c.val / 64 = h.val then Ideal.ofBits .f32 0x3E000000#32 else 0) := by
  have e := head_word c h
  fin_cases h <;>
  · show _ = _
    simp only [queries, proj, k0_pay180, k0_pay181, k0_pay182, k0_pay183, k0_pay174, k0_pay10, k0_pay11, k0_pay12, k0_pay13, k0_pay9,
      k0_pay173, k0_pay177, k0_pay178, k0_pay8, k0_pay7, k0_pay4, k0_pay3, ld0, ld1, ld2]
    pointwise []
    rw [lane_word, show IntOp.cmpi CmpIPredicate.eq (BitVec.ofNat 32 (c.val / 64)) _ = _ from e, select_ite, mul_ite, mul_zero]

end

/-! ## A row of the output -/

/-- Query block `i` sees key block `j`: the end blocks see every one, a middle block the ones of its row of the table. -/
def seen (i j : Nat) : Bool := Nat.beq i 0 || Nat.beq i 31 || (colTable.getD i []).contains j

/-- How many of the eight key blocks of query block `i` are different. -/
def count (i : Nat) : Nat := if padded i then 7 else 8

theorem seen_col (i : Fin 32) (a : Fin 8) (ha : a.val < count i.val) (h0 : i.val ≠ 0) (h31 : i.val ≠ 31) :
    seen i.val (colAt i.val a.val) = true := by
  revert i a; decide +kernel

theorem col_inj (i : Fin 32) (a b : Fin 8) (ha : a.val < count i.val) (hb : b.val < count i.val) (h0 : i.val ≠ 0) (h31 : i.val ≠ 31)
    (h : colAt i.val a.val = colAt i.val b.val) : a = b := by
  revert i a b; decide +kernel

theorem col_sur (i j : Fin 32) (h : seen i.val j.val = true) (h0 : i.val ≠ 0) (h31 : i.val ≠ 31) :
    ∃ a : Fin 8, a.val < count i.val ∧ colAt i.val a.val = j.val := by
  revert i j; decide +kernel

theorem count_rows (i : Nat) : (if padded i then 448 else 512) = 64 * count i := by
  unfold count; split_ifs <;> rfl

theorem count_pos (i : Nat) : 0 < count i := by unfold count; split_ifs <;> omega

/-- Head `h`'s score of query row `q` and key row `k`. -/
def score (q k : Fin 64 → EReal) : EReal :=
  Ideal.div (∑ e : Fin 64, q e * k e) (Ideal.sqrt (Ideal.ofBits .f32 0x42800000#32))

theorem IsReal.score {q k : Fin 64 → EReal} (hq : ∀ e, IsReal (q e)) (hk : ∀ e, IsReal (k e)) : IsReal (score q k) := by
  have h8 : Real.sqrt 64 = 8 := by
    rw [show (64 : ℝ) = 8 ^ 2 by norm_num]; exact Real.sqrt_sq (by norm_num)
  unfold Attn.score
  rw [lit_64, Ideal.sqrt_coe, if_neg (by norm_num), h8, Ideal.div_coe (by norm_num)]
  exact (IsReal.sum fun e => (hq e).mul (hk e)).mul ⟨_, rfl⟩

/-- Masked attention of one head: query row `r` against every key row, keys of unseen blocks at `⊥`. -/
def attend (q k : Fin 2048 → Fin 64 → EReal) (v : Fin 2048 → EReal) (r : Fin 2048) : EReal :=
  ∑ t : Fin 2048, weight (fun t : Fin 2048 => if seen (r.val / 64) (t.val / 64) then score (q r) (k t) else ⊥) t * v t

/-- A middle block's weighted values are masked attention. -/
theorem mid_attend (i : Fin 32) (h0 : i.val ≠ 0) (h31 : i.val ≠ 31) (q : Fin 64 → EReal) (k : Fin 2048 → Fin 64 → EReal)
    (v : Fin 2048 → EReal) (hq : ∀ e, IsReal (q e)) (hk : ∀ t e, IsReal (k t e)) :
    ∑ n : Fin 512, weight (fun n : Fin 512 =>
        if n.val < (if padded i.val then 448 else 512) then score q (k (keyRow i n)) else ⊥) n * v (keyRow i n)
      = ∑ t : Fin 2048, weight (fun t : Fin 2048 => if seen i.val (t.val / 64) then score q (k t) else ⊥) t * v t := by
  have hk0 : ∀ n : Fin 512, (keyRow i n).val = 64 * colAt i.val (n.val / 64) + n.val % 64 := fun _ => rfl
  rw [count_rows]
  refine weighted_kept (fun n : Fin 512 => n.val < 64 * count i.val) (fun t : Fin 2048 => seen i.val (t.val / 64) = true) (keyRow i)
    ?_ ?_ ?_ ⟨0, by omega⟩ ?_ (fun t => score q (k t)) (fun t => IsReal.score hq (hk t)) v
  · intro n hn
    rw [hk0, show (64 * colAt i.val (n.val / 64) + n.val % 64) / 64 = colAt i.val (n.val / 64) by omega]
    exact seen_col i ⟨n.val / 64, by omega⟩ (by show n.val / 64 < _; omega) h0 h31
  · intro a b ha hb hab
    have hv := congrArg Fin.val hab
    rw [hk0, hk0] at hv
    have := col_inj i ⟨a.val / 64, by omega⟩ ⟨b.val / 64, by omega⟩ (by show a.val / 64 < _; omega) (by show b.val / 64 < _; omega)
      h0 h31 (by show colAt i.val (a.val / 64) = colAt i.val (b.val / 64); omega)
    have := congrArg Fin.val this
    simp only at this
    exact Fin.ext (by omega)
  · intro t ht
    obtain ⟨a, ha, e⟩ := col_sur i ⟨t.val / 64, by omega⟩ ht h0 h31
    refine ⟨⟨64 * a.val + t.val % 64, by omega⟩, by show 64 * a.val + t.val % 64 < _; omega, Fin.ext ?_⟩
    rw [hk0]
    show 64 * colAt i.val ((64 * a.val + t.val % 64) / 64) + (64 * a.val + t.val % 64) % 64 = t.val
    rw [show (64 * a.val + t.val % 64) / 64 = a.val by omega, e]
    show 64 * (t.val / 64) + (64 * a.val + t.val % 64) % 64 = t.val
    omega
  · have := count_pos i.val
    show 0 < _; omega

section
variable (x0 : Vec Ideal S2048x768 .bf16) (x1 x2 x3 : Vec Ideal S768x256 .bf16) (x4 x5 x6 : Vec Ideal S1x256 .f32)

/-- A block's row, its scores over all 256 lanes turned into the head's own. -/
theorem lanes_score (hq : ∀ r c, IsReal (proj x0 x1 x4 r c)) (hk : ∀ r c, IsReal (proj x0 x2 x5 r c)) (r t : Fin 2048) (h : Fin 4) :
    ∑ c : Fin 256, queries x0 x1 x2 x3 x4 x5 x6 h (ix2 r c) * k0_pay175 x0 x1 x2 x3 x4 x5 x6 (ix2 t c)
      = score (fun e => proj x0 x1 x4 r (lane4 h e)) (fun e => proj x0 x2 x5 t (lane4 h e)) := by
  simp only [queries_apply, keys_apply]
  exact score_eq _ _ (hq r) (hk t) h

/-- THE ATTENTION KERNEL'S OUTPUT. Row `r`, lane `c` of the block it leaves is masked attention of the lane's head. -/
theorem out_apply (hq : ∀ r c, IsReal (proj x0 x1 x4 r c)) (hk : ∀ r c, IsReal (proj x0 x2 x5 r c)) (r : Fin 2048) (c : Fin 256) :
    out0_7 x0 x1 x2 x3 x4 x5 x6 (ix2 r c)
      = attend (fun r e => proj x0 x1 x4 r (lane4 ⟨c.val / 64, by omega⟩ e))
          (fun r e => proj x0 x2 x5 r (lane4 ⟨c.val / 64, by omega⟩ e)) (fun t => proj x0 x3 x6 t c) r := by
  have hz : (![0, 0] : Fin 2 → Nat) = fun _ => 0 := by funext a; match a with | 0 => rfl | 1 => rfl
  rw [out_eq, View.canon_unit_zero hz, joined_apply]
  unfold block
  rw [pick_apply _ _ _ _ (lane_apply ..)]
  have hr : (⟨64 * (r.val / 64) + (64 * (c.val / 64) + r.val % 64) % 64, by omega⟩ : Fin 2048) = r := Fin.ext (by show 64 * (r.val / 64) + (64 * (c.val / 64) + r.val % 64) % 64 = _; omega)
  have hc : (⟨(64 * (c.val / 64) + r.val % 64) / 64, by omega⟩ : Fin 4) = ⟨c.val / 64, by omega⟩ := Fin.ext (by show (64 * (c.val / 64) + r.val % 64) / 64 = c.val / 64; omega)
  have hh : ∀ d : Fin 256, heads (k0_pay180 x0 x1 x2 x3 x4 x5 x6) (k0_pay181 x0 x1 x2 x3 x4 x5 x6)
      (k0_pay182 x0 x1 x2 x3 x4 x5 x6) (k0_pay183 x0 x1 x2 x3 x4 x5 x6) ⟨r.val / 64, by omega⟩
        (ix2 ⟨64 * (c.val / 64) + r.val % 64, by omega⟩ d)
      = queries x0 x1 x2 x3 x4 x5 x6 ⟨c.val / 64, by omega⟩ (ix2 r d) := by
    intro d
    exact (heads_apply (queries x0 x1 x2 x3 x4 x5 x6) ⟨r.val / 64, by omega⟩ ⟨64 * (c.val / 64) + r.val % 64, by omega⟩ d).trans
      (congrArg₂ (fun h y => queries x0 x1 x2 x3 x4 x5 x6 h (ix2 y d)) hc hr)
  unfold attend
  cases he : Nat.beq (r.val / 64) 0 || Nat.beq (r.val / 64) 31 with
  | true =>
    have hs : ∀ t, seen (r.val / 64) t = true := fun t => by unfold seen; rw [he]; rfl
    show whole _ _ _ _ = _
    rw [whole_apply]
    simp only [hh, lanes_score x0 x1 x2 x3 x4 x5 x6 hq hk, hs, values_apply, if_true]
  | false =>
    rw [Bool.or_eq_false_iff] at he
    have h0 : r.val / 64 ≠ 0 := Nat.ne_of_beq_eq_false he.1
    have h31 : r.val / 64 ≠ 31 := Nat.ne_of_beq_eq_false he.2
    show mid _ _ _ _ _ = _
    rw [mid_apply]
    simp only [hh, gather_apply, lanes_score x0 x1 x2 x3 x4 x5 x6 hq hk, values_apply]
    exact mid_attend ⟨r.val / 64, by omega⟩ h0 h31 (fun e => proj x0 x1 x4 r (lane4 ⟨c.val / 64, by omega⟩ e))
      (fun t e => proj x0 x2 x5 t (lane4 ⟨c.val / 64, by omega⟩ e)) (fun t => proj x0 x3 x6 t c) (fun e => hq _ _) (fun t e => hk _ _)

end

end Cert.Attn
-- ==== Proof.Region0.lean ====
/- The array the attention region leaves: masked attention of every head, over the arrays it reads. -/
module

public import proofs.«01_k».proof.Proof.Read
public import Idealize.ShloMosaic.Lib.Pipeline.ValueKit

@[expose] public section

set_option maxRecDepth 16384

noncomputable section

namespace Cert.Attn

open Idealize.ShloMosaic Idealize.ShloMosaic.TcCoe Idealize.ShloMosaic.Tactic
open Cert.KernelIdeal Cert.KernelIdeal.Gen
open Idealize.ShloMosaic.Pipeline (Dat Cfg Window cellOf)

/-- Every window of the attention region but the first and its result move along the columns with the grid point. -/
theorem index0 : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] :=
  (by decide +kernel : ∀ t : Fin grid0.N, _)

theorem lt0 (t : Fin cfg0.N) : t.val < 3 := by have h := t.isLt; have : cfg0.N = 3 := N_0; omega

/-- Lane `c` of column group `t`. -/
def lane12 (t : Fin cfg0.N) (c : Fin 256) : Fin 768 := ⟨256 * t.val + c.val, by have := lt0 t; omega⟩

/-- A projection of the inputs onto all 768 lanes. -/
def projAll (x : S2048x768.Idx → EReal) (w : S768x768.Idx → EReal) (b : S1x768.Idx → EReal) (r : Fin 2048) (c : Fin 768) : EReal :=
  ∑ d : Fin 768, x (ix2 r d) * w (ix2 d c) + b (ix2 0 c)

/-- Lane `e` of the head that lane `c` is of. -/
def headLane (c : Fin 768) (e : Fin 64) : Fin 768 := ⟨64 * (c.val / 64) + e.val, by omega⟩

/-- Masked attention of every head: row `i 0` at lane `i 1`. -/
def attnAll (x : S2048x768.Idx → EReal) (wq wk wv : S768x768.Idx → EReal) (bq bk bv : S1x768.Idx → EReal) : S2048x768.Idx → EReal :=
  fun i => attend (fun r e => projAll x wq bq r (headLane (i 1) e)) (fun r e => projAll x wk bk r (headLane (i 1) e))
    (fun t => projAll x wv bv t (i 1)) (i 0)

variable (V : (c : Dev nD) → (b : Ref sig .tc) → Buf (Elt Ideal) ((c : Thread nD τ).loc b)) (c : Dev nD)

/-- The arrays the attention region reads. -/
abbrev inX : S2048x768.Idx → EReal := V c main_call0_v1
abbrev inWq : S768x768.Idx → EReal := V c main_call0_v3
abbrev inWk : S768x768.Idx → EReal := V c main_call0_v5
abbrev inWv : S768x768.Idx → EReal := V c main_call0_v7
abbrev inBq : S1x768.Idx → EReal := V c main_call0_v8
abbrev inBk : S1x768.Idx → EReal := V c main_call0_v9
abbrev inBv : S1x768.Idx → EReal := V c main_call0_v10

theorem projq (t : Fin cfg0.N) (r : Fin 2048) (l : Fin 256) :
    proj (iblk0 V c 0 t) (iblk0 V c 1 t) (iblk0 V c 4 t) r l = projAll (inX V c) (inWq V c) (inBq V c) r (lane12 t l) := by
  unfold proj projAll lane12
  have hi := index0 t
  reads_congr <;> blk_ext [iblk0, hi]

theorem projk (t : Fin cfg0.N) (r : Fin 2048) (l : Fin 256) :
    proj (iblk0 V c 0 t) (iblk0 V c 2 t) (iblk0 V c 5 t) r l = projAll (inX V c) (inWk V c) (inBk V c) r (lane12 t l) := by
  unfold proj projAll lane12
  have hi := index0 t
  reads_congr <;> blk_ext [iblk0, hi]

theorem projv (t : Fin cfg0.N) (r : Fin 2048) (l : Fin 256) :
    proj (iblk0 V c 0 t) (iblk0 V c 3 t) (iblk0 V c 6 t) r l = projAll (inX V c) (inWv V c) (inBv V c) r (lane12 t l) := by
  unfold proj projAll lane12
  have hi := index0 t
  reads_congr <;> blk_ext [iblk0, hi]

/-- THE ATTENTION REGION'S ARRAY, when the projected queries and keys are real numbers. -/
theorem final0 (hq : ∀ r l, IsReal (projAll (inX V c) (inWq V c) (inBq V c) r l))
    (hk : ∀ r l, IsReal (projAll (inX V c) (inWk V c) (inBk V c) r l)) :
    (dat0 V c).arrAt 7 cfg0.N = attnAll (inX V c) (inWq V c) (inWk V c) (inWv V c) (inBq V c) (inBk V c) (inBv V c) := by
  refine (dat0 V c).arrAt_eq_of_covers 7 _ (by decide +kernel) fun t hf y => ?_
  blk_simp
  rw [after0_7]
  obtain ⟨r, l, rfl⟩ : ∃ (r : Fin 2048) (l : Fin 256), y = ix2 r l := ⟨y 0, y 1, by funext a; match a with | 0 => rfl | 1 => rfl⟩
  rw [out_apply _ _ _ _ _ _ _ (fun r c' => by rw [projq]; exact hq _ _) (fun r c' => by rw [projk]; exact hk _ _)]
  have hi := index0 t
  have ht := lt0 t
  have he : ((cfg0.win 7).blk t).view.emb (ix2 r l) = (ix2 r (lane12 t l) : S2048x768.Idx) := by
    unfold lane12; blk_ext [hi]
  refine Eq.trans ?_ (congrArg (attnAll (inX V c) (inWq V c) (inWk V c) (inWv V c) (inBq V c) (inBk V c) (inBv V c)) he).symm
  unfold attnAll
  simp only [projq, projk, projv]
  have hl : ∀ e : Fin 64, lane12 t (lane4 ⟨l.val / 64, by omega⟩ e) = headLane (lane12 t l) e := fun e => Fin.ext (by
    show 256 * t.val + (64 * (l.val / 64) + e.val) = 64 * ((256 * t.val + l.val) / 64) + e.val
    omega)
  simp only [hl]
  rfl

end Cert.Attn
-- ==== Proof.Region1.lean ====
/- The array the second region leaves: the projection, the two norms and the two-layer network, row by row. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Attn

open Idealize.ShloMosaic Idealize.ShloMosaic.TcCoe Idealize.ShloMosaic.Tactic
open Cert.KernelIdeal Cert.KernelIdeal.Gen
open Idealize.ShloMosaic.Pipeline (Dat Cfg Window cellOf)

/-- The mean of a row of 768. -/
def mean (x : Fin 768 → EReal) : EReal := Ideal.div (∑ l, x l) (Ideal.ofBits .f32 0x44400000#32)

/-- A row shifted to mean zero and scaled to variance one, then scaled and shifted lane by lane. -/
def norm (x g b : Fin 768 → EReal) (l : Fin 768) : EReal :=
  Ideal.div (x l - mean x)
    (Ideal.sqrt (mean (fun l => (x l - mean x) * (x l - mean x)) + Ideal.ofBits .f32 0x358637BD#32)) * g l + b l

/-- The two-layer network on a row. -/
def network (o : Fin 768 → EReal) (w1 : Fin 768 → Fin 3072 → EReal) (c1 : Fin 3072 → EReal) (w2 : Fin 3072 → Fin 768 → EReal)
    (c2 : Fin 768 → EReal) (l : Fin 768) : EReal :=
  ∑ j, max (∑ d, o d * w1 d j + c1 j) 0 * w2 j l + c2 l

/-- The row after the projection of the attended row, the sum with the input and the first norm. -/
def first (x : Fin 768 → EReal) (a : Fin 768 → EReal) (g b : Fin 768 → EReal) : Fin 768 → EReal :=
  norm (fun l => x l + a l) g b

/-- The rest of the layer on one row: `x` the input row, `a` the projected attended row. -/
def rest (x a g1 b1 : Fin 768 → EReal) (w1 : Fin 768 → Fin 3072 → EReal) (c1 : Fin 3072 → EReal) (w2 : Fin 3072 → Fin 768 → EReal)
    (c2 g2 b2 : Fin 768 → EReal) : Fin 768 → EReal :=
  norm (fun l => first x a g1 b1 l + network (first x a g1 b1) w1 c1 w2 c2 l) g2 b2

section
variable (v0 : Vec Ideal S256x768 .bf16) (v2 : Vec Ideal S768x768 .bf16) (v5 : Vec Ideal S1x768 .f32) (v9 : Vec Ideal S256x768 .f32)
  (v12 v14 : Vec Ideal S1x768 .f32) (r : Fin 256) (l : Fin 768)

/-- The first norm's row as the kernel computes it. -/
theorem pay2_apply : k1_pay2 v0 v2 v5 v9 v12 v14 (ix2 r l)
    = first (fun l => v9 (ix2 r l)) (fun l => ∑ d : Fin 768, v0 (ix2 r d) * v2 (ix2 d l) + v5 (ix2 0 l))
        (fun l => v12 (ix2 0 l)) (fun l => v14 (ix2 0 l)) l := by
  unfold k1_pay2 first norm mean; pointwise []

end

section
variable (o : FVec Ideal S256x768 .f32) (ob : FVec Ideal S256x768 .bf16) (w1 : Vec Ideal S768x3072 .bf16) (c1 : Vec Ideal S1x3072 .f32)
  (w2 : Vec Ideal S3072x768 .bf16) (c2 g b : Vec Ideal S1x768 .f32) (r : Fin 256) (l : Fin 768)

/-- The network and the second norm as the kernel computes them. -/
theorem pay5_apply : k1_pay1 (k1_pay4 b) (k1_pay5 o ob w1 c1 w2 c2 g) (ix2 r l)
    = norm (fun l => o (ix2 r l) + network (fun l => ob (ix2 r l)) (fun d j => w1 (ix2 d j)) (fun j => c1 (ix2 0 j))
        (fun j l => w2 (ix2 j l)) (fun l => c2 (ix2 0 l)) l) (fun l => g (ix2 0 l)) (fun l => b (ix2 0 l)) l := by
  unfold k1_pay1 k1_pay4 k1_pay5 norm mean network; pointwise []

end

theorem hz2 : (![0, 0] : Fin 2 → Nat) = fun _ => 0 := by funext a; match a with | 0 => rfl | 1 => rfl

/-- THE SECOND KERNEL'S OUTPUT, at a row and a lane of its block. -/
theorem out1_apply (x0 : Vec Ideal S256x768 .f32) (x1 : Vec Ideal S256x768 .bf16) (x2 : Vec Ideal S768x768 .bf16)
    (x3 x4 x5 : Vec Ideal S1x768 .f32) (x6 : Vec Ideal S768x3072 .bf16) (x7 : Vec Ideal S1x3072 .f32) (x8 : Vec Ideal S3072x768 .bf16)
    (x9 x10 x11 : Vec Ideal S1x768 .f32) (r : Fin 256) (l : Fin 768) :
    out1_12 x0 x1 x2 x3 x4 x5 x6 x7 x8 x9 x10 x11 (ix2 r l)
      = rest (fun l => x0 (ix2 r l)) (fun l => ∑ d : Fin 768, x1 (ix2 r d) * x2 (ix2 d l) + x3 (ix2 0 l))
          (fun l => x4 (ix2 0 l)) (fun l => x5 (ix2 0 l)) (fun d j => x6 (ix2 d j)) (fun j => x7 (ix2 0 j))
          (fun j l => x8 (ix2 j l)) (fun l => x9 (ix2 0 l)) (fun l => x10 (ix2 0 l)) (fun l => x11 (ix2 0 l)) l := by
  unfold out1_12
  rw [View.canon_unit_zero hz2, View.ld_unit_zero hz2, View.ld_unit_zero hz2, View.ld_unit_zero hz2, View.ld_unit_zero hz2,
    View.ld_unit_zero hz2, View.ld_unit_zero hz2, View.ld_unit_zero hz2, View.ld_unit_zero hz2, View.ld_unit_zero hz2,
    View.ld_unit_zero hz2, View.ld_unit_zero hz2, View.ld_unit_zero hz2]
  have hb : ∀ d : Fin 768, k1_pay3 x1 x2 x3 x0 x4 x5 (ix2 r d) = k1_pay2 x1 x2 x3 x0 x4 x5 (ix2 r d) := fun d => by
    unfold k1_pay3; pointwise []
  rw [pay5_apply]
  simp only [hb, pay2_apply]
  rfl

/-- The rows of the input, of the attended rows and of the result move with the grid point; every other window is whole. -/
theorem index1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![t.val, 0] :=
  (by decide +kernel : ∀ t : Fin grid1.N, _)

theorem lt1 (t : Fin cfg1.N) : t.val < 8 := by have h := t.isLt; have : cfg1.N = 8 := N_1; omega

/-- Row `r` of row group `t`. -/
def rowOf (t : Fin cfg1.N) (r : Fin 256) : Fin 2048 := ⟨256 * t.val + r.val, by have := lt1 t; omega⟩

/-- The layer after the attention, over whole arrays. -/
def restAll (x ctx : S2048x768.Idx → EReal) (wo : S768x768.Idx → EReal) (bo g1 b1 : S1x768.Idx → EReal) (w1 : S768x3072.Idx → EReal)
    (c1 : S1x3072.Idx → EReal) (w2 : S3072x768.Idx → EReal) (c2 g2 b2 : S1x768.Idx → EReal) : S2048x768.Idx → EReal :=
  fun i => rest (fun l => x (ix2 (i 0) l)) (fun l => ∑ d : Fin 768, ctx (ix2 (i 0) d) * wo (ix2 d l) + bo (ix2 0 l))
    (fun l => g1 (ix2 0 l)) (fun l => b1 (ix2 0 l)) (fun d j => w1 (ix2 d j)) (fun j => c1 (ix2 0 j))
    (fun j l => w2 (ix2 j l)) (fun l => c2 (ix2 0 l)) (fun l => g2 (ix2 0 l)) (fun l => b2 (ix2 0 l)) (i 1)

variable (V : (c : Dev nD) → (b : Ref sig .tc) → Buf (Elt Ideal) ((c : Thread nD τ).loc b)) (c : Dev nD)

set_option maxHeartbeats 2000000 in
/-- THE SECOND REGION'S ARRAY. -/
theorem final1 : (dat1 V c).arrAt 12 cfg1.N
    = restAll (V c main_call0_v0) (V c main_call0_v11) (V c main_call0_v13) (V c main_call0_v14) (V c main_call0_v15)
        (V c main_call0_v16) (V c main_call0_v17) (V c main_call0_v18) (V c main_call0_v19) (V c main_call0_v20)
        (V c main_call0_v21) (V c main_call0_v22) := by
  refine (dat1 V c).arrAt_eq_of_covers 12 _ (by decide +kernel) fun t hf y => ?_
  blk_simp
  rw [after1_12]
  obtain ⟨r, l, rfl⟩ : ∃ (r : Fin 256) (l : Fin 768), y = ix2 r l := ⟨y 0, y 1, by funext a; match a with | 0 => rfl | 1 => rfl⟩
  rw [out1_apply]
  have hi := index1 t
  have ht := lt1 t
  have he : ((cfg1.win 12).blk t).view.emb (ix2 r l) = (ix2 (rowOf t r) l : S2048x768.Idx) := by
    unfold rowOf; blk_ext [hi]
  refine Eq.trans ?_ (congrArg (restAll (V c main_call0_v0) (V c main_call0_v11) (V c main_call0_v13) (V c main_call0_v14) (V c main_call0_v15)
        (V c main_call0_v16) (V c main_call0_v17) (V c main_call0_v18) (V c main_call0_v19) (V c main_call0_v20)
        (V c main_call0_v21) (V c main_call0_v22)) he).symm
  unfold restAll
  show rest _ _ _ _ _ _ _ _ _ _ l = rest _ _ _ _ _ _ _ _ _ _ l
  unfold rowOf
  reads_congr <;> blk_ext [iblk1, hi]

end Cert.Attn
-- ==== Proof.Host.lean ====
/- What the host operations around the two regions hold, read at an index as terms over the arguments. -/
module

public import proofs.«01_k».proof.Proof.Region0
public import proofs.«01_k».proof.Proof.Region1
public import Idealize.ShloMosaic.Lib.StableHlo.ReadAt

@[expose] public section

set_option maxRecDepth 16384

noncomputable section

namespace Cert.Attn

open Idealize.ShloMosaic Idealize.ShloMosaic.TcCoe Idealize.ShloMosaic.Tactic
open Cert.KernelIdeal Cert.KernelIdeal.Gen

/-- The head that a lane is of. -/
def headOf (l : Fin 768) : Fin 12 := ⟨l.val / 64, by omega⟩

/-- The place of a lane within its head. -/
def laneOf (l : Fin 768) : Fin 64 := ⟨l.val % 64, by omega⟩

/-- A projection of the inputs onto lane `e` of head `h`. -/
def projHead (x : S1x2048x768.Idx → EReal) (w : S768x12x64.Idx → EReal) (b : S12x64.Idx → EReal) (r : Fin 2048) (h : Fin 12)
    (e : Fin 64) : EReal :=
  ∑ d : Fin 768, x (ix3 0 r d) * w (ix3 d h e) + b (ix2 h e)

/-- The attended values of all heads, laid side by side on 768 lanes. -/
def attended (x : S1x2048x768.Idx → EReal) (wq : S768x12x64.Idx → EReal) (bq : S12x64.Idx → EReal) (wk : S768x12x64.Idx → EReal)
    (bk : S12x64.Idx → EReal) (wv : S768x12x64.Idx → EReal) (bv : S12x64.Idx → EReal) (r : Fin 2048) (l : Fin 768) : EReal :=
  attend (fun r e => projHead x wq bq r (headOf l) e) (fun r e => projHead x wk bk r (headOf l) e)
    (fun t => projHead x wv bv t (headOf l) (laneOf l)) r

/-- THE LAYER, as a function of its seventeen arguments in their order, at row `r` and lane `l`. -/
def layer (x : S1x2048x768.Idx → EReal) (wq : S768x12x64.Idx → EReal) (bq : S12x64.Idx → EReal) (wk : S768x12x64.Idx → EReal)
    (bk : S12x64.Idx → EReal) (wv : S768x12x64.Idx → EReal) (bv : S12x64.Idx → EReal) (wo : S12x64x768.Idx → EReal)
    (bo g1 b1 g2 b2 : S768.Idx → EReal) (w1 : S768x3072.Idx → EReal) (c1 : S3072.Idx → EReal) (w2 : S3072x768.Idx → EReal)
    (c2 : S768.Idx → EReal) (r : Fin 2048) : Fin 768 → EReal :=
  rest (fun l => x (ix3 0 r l))
    (fun l => ∑ d : Fin 768, attended x wq bq wk bk wv bv r d * wo (ix3 (headOf d) (laneOf d) l) + bo (ix1 l))
    (fun l => g1 (ix1 l)) (fun l => b1 (ix1 l)) (fun d j => w1 (ix2 d j)) (fun j => c1 (ix1 j)) (fun j l => w2 (ix2 j l))
    (fun l => c2 (ix1 l)) (fun l => g2 (ix1 l)) (fun l => b2 (ix1 l))

variable (m : (ℓ : Loc nD τ sig) → Buf (Elt Ideal) ℓ) (ρ : Dev nD → PrngReg) (c : Dev nD)

/-- Argument `r` of the kernel at launch. -/
abbrev arg (r : Ref sig .tc) : Buf (Elt Ideal) ((c : Thread nD τ).loc r) := m ((c : Thread nD τ).loc r)

/-! ## Before the first region -/

theorem v0_at (r : Fin 2048) (d : Fin 768) : V1 m ρ c main_call0_v0 (ix2 r d) = arg m c main_arg0 (ix3 0 r d) := by
  after_reads_at

theorem v1_at (r : Fin 2048) (d : Fin 768) : V1 m ρ c main_call0_v1 (ix2 r d) = arg m c main_arg0 (ix3 0 r d) := by
  after_reads_at

theorem v3_at (d l : Fin 768) : V1 m ρ c main_call0_v3 (ix2 d l) = arg m c main_arg1 (ix3 d (headOf l) (laneOf l)) := by
  after_reads_at; rfl

theorem v5_at (d l : Fin 768) : V1 m ρ c main_call0_v5 (ix2 d l) = arg m c main_arg3 (ix3 d (headOf l) (laneOf l)) := by
  after_reads_at; rfl

theorem v7_at (d l : Fin 768) : V1 m ρ c main_call0_v7 (ix2 d l) = arg m c main_arg5 (ix3 d (headOf l) (laneOf l)) := by
  after_reads_at; rfl

theorem v8_at (l : Fin 768) : V1 m ρ c main_call0_v8 (ix2 0 l) = arg m c main_arg2 (ix2 (headOf l) (laneOf l)) := by
  after_reads_at; rfl

theorem v9_at (l : Fin 768) : V1 m ρ c main_call0_v9 (ix2 0 l) = arg m c main_arg4 (ix2 (headOf l) (laneOf l)) := by
  after_reads_at; rfl

theorem v10_at (l : Fin 768) : V1 m ρ c main_call0_v10 (ix2 0 l) = arg m c main_arg6 (ix2 (headOf l) (laneOf l)) := by
  after_reads_at; rfl

theorem headOf_headLane (l : Fin 768) (e : Fin 64) : headOf (headLane l e) = headOf l :=
  Fin.ext (show (64 * (l.val / 64) + e.val) / 64 = l.val / 64 by omega)

theorem laneOf_headLane (l : Fin 768) (e : Fin 64) : laneOf (headLane l e) = e :=
  Fin.ext (show (64 * (l.val / 64) + e.val) % 64 = e.val by omega)

theorem projq_at (r : Fin 2048) (l : Fin 768) : projAll (inX (V1 m ρ) c) (inWq (V1 m ρ) c) (inBq (V1 m ρ) c) r l
    = projHead (arg m c main_arg0) (arg m c main_arg1) (arg m c main_arg2) r (headOf l) (laneOf l) :=
  congrArg₂ (· + ·) (Finset.sum_congr rfl fun d _ => congrArg₂ (· * ·) (v1_at m ρ c r d) (v3_at m ρ c d l)) (v8_at m ρ c l)

theorem projk_at (r : Fin 2048) (l : Fin 768) : projAll (inX (V1 m ρ) c) (inWk (V1 m ρ) c) (inBk (V1 m ρ) c) r l
    = projHead (arg m c main_arg0) (arg m c main_arg3) (arg m c main_arg4) r (headOf l) (laneOf l) :=
  congrArg₂ (· + ·) (Finset.sum_congr rfl fun d _ => congrArg₂ (· * ·) (v1_at m ρ c r d) (v5_at m ρ c d l)) (v9_at m ρ c l)

theorem projv_at (r : Fin 2048) (l : Fin 768) : projAll (inX (V1 m ρ) c) (inWv (V1 m ρ) c) (inBv (V1 m ρ) c) r l
    = projHead (arg m c main_arg0) (arg m c main_arg5) (arg m c main_arg6) r (headOf l) (laneOf l) :=
  congrArg₂ (· + ·) (Finset.sum_congr rfl fun d _ => congrArg₂ (· * ·) (v1_at m ρ c r d) (v7_at m ρ c d l)) (v10_at m ρ c l)

/-! ## Between the regions and after them -/

theorem v13_at (d l : Fin 768) : V3 m ρ c main_call0_v13 (ix2 d l) = arg m c main_arg7 (ix3 (headOf d) (laneOf d) l) := by
  after_reads_at; rw [W2_args m ρ c main_arg7 (by decide)]; rfl

theorem v14_at (l : Fin 768) : V3 m ρ c main_call0_v14 (ix2 0 l) = arg m c main_arg8 (ix1 l) := by
  after_reads_at; rw [W2_args m ρ c main_arg8 (by decide)]

theorem v15_at (l : Fin 768) : V3 m ρ c main_call0_v15 (ix2 0 l) = arg m c main_arg9 (ix1 l) := by
  after_reads_at; rw [W2_args m ρ c main_arg9 (by decide)]

theorem v16_at (l : Fin 768) : V3 m ρ c main_call0_v16 (ix2 0 l) = arg m c main_arg10 (ix1 l) := by
  after_reads_at; rw [W2_args m ρ c main_arg10 (by decide)]

theorem v17_at (d : Fin 768) (j : Fin 3072) : V3 m ρ c main_call0_v17 (ix2 d j) = arg m c main_arg13 (ix2 d j) := by
  after_reads_at; rw [W2_args m ρ c main_arg13 (by decide)]

theorem v18_at (j : Fin 3072) : V3 m ρ c main_call0_v18 (ix2 0 j) = arg m c main_arg14 (ix1 j) := by
  after_reads_at; rw [W2_args m ρ c main_arg14 (by decide)]

theorem v19_at (j : Fin 3072) (l : Fin 768) : V3 m ρ c main_call0_v19 (ix2 j l) = arg m c main_arg15 (ix2 j l) := by
  after_reads_at; rw [W2_args m ρ c main_arg15 (by decide)]

theorem v20_at (l : Fin 768) : V3 m ρ c main_call0_v20 (ix2 0 l) = arg m c main_arg16 (ix1 l) := by
  after_reads_at; rw [W2_args m ρ c main_arg16 (by decide)]

theorem v21_at (l : Fin 768) : V3 m ρ c main_call0_v21 (ix2 0 l) = arg m c main_arg11 (ix1 l) := by
  after_reads_at; rw [W2_args m ρ c main_arg11 (by decide)]

theorem v22_at (l : Fin 768) : V3 m ρ c main_call0_v22 (ix2 0 l) = arg m c main_arg12 (ix1 l) := by
  after_reads_at; rw [W2_args m ρ c main_arg12 (by decide)]

/-- The second region reads the input rows as the first stretch left them. -/
theorem v0_kept : V3 m ρ c main_call0_v0 = V1 m ρ c main_call0_v0 :=
  (W3_of m ρ c main_call0_v0 (by decide)).trans (W2_of m ρ c main_call0_v0 (by decide))

/-- The second region reads the attended rows as the first region left them. -/
theorem v11_kept : V3 m ρ c main_call0_v11 = (dat0 (V1 m ρ) c).arrAt 7 cfg0.N :=
  (W3_of m ρ c main_call0_v11 (by decide)).trans (W2_arr m ρ c 7)

/-- The result is the second region's array. -/
theorem result_at (r : Fin 2048) (l : Fin 768) :
    W5 m ρ c (Proc.devRef .tc main_v0) (ix3 0 r l) = (dat1 (V3 m ρ) c).arrAt 12 cfg1.N (ix2 r l) := by
  after_reads_at
  exact congrFun (W4_arr m ρ c 12) (ix2 r l)

/-- `attnAll` at a row and a lane. -/
theorem attnAll_apply (x : S2048x768.Idx → EReal) (wq wk wv : S768x768.Idx → EReal) (bq bk bv : S1x768.Idx → EReal) (r : Fin 2048)
    (l : Fin 768) : attnAll x wq wk wv bq bk bv (ix2 r l)
      = attend (fun r e => projAll x wq bq r (headLane l e)) (fun r e => projAll x wk bk r (headLane l e))
          (fun t => projAll x wv bv t l) r := rfl

/-- `restAll` at a row and a lane. -/
theorem restAll_apply (x ctx : S2048x768.Idx → EReal) (wo : S768x768.Idx → EReal) (bo g1 b1 : S1x768.Idx → EReal)
    (w1 : S768x3072.Idx → EReal) (c1 : S1x3072.Idx → EReal) (w2 : S3072x768.Idx → EReal) (c2 g2 b2 : S1x768.Idx → EReal)
    (r : Fin 2048) (l : Fin 768) : restAll x ctx wo bo g1 b1 w1 c1 w2 c2 g2 b2 (ix2 r l)
      = rest (fun l => x (ix2 r l)) (fun l => ∑ d : Fin 768, ctx (ix2 r d) * wo (ix2 d l) + bo (ix2 0 l))
          (fun l => g1 (ix2 0 l)) (fun l => b1 (ix2 0 l)) (fun d j => w1 (ix2 d j)) (fun j => c1 (ix2 0 j))
          (fun j l => w2 (ix2 j l)) (fun l => c2 (ix2 0 l)) (fun l => g2 (ix2 0 l)) (fun l => b2 (ix2 0 l)) l := rfl

/-- `rest` of rows that agree lane by lane. -/
theorem rest_congr {x a g1 b1 x' a' g1' b1' : Fin 768 → EReal} {w1 w1' : Fin 768 → Fin 3072 → EReal} {c1 c1' : Fin 3072 → EReal}
    {w2 w2' : Fin 3072 → Fin 768 → EReal} {c2 g2 b2 c2' g2' b2' : Fin 768 → EReal} (hx : ∀ l, x l = x' l) (ha : ∀ l, a l = a' l)
    (hg1 : ∀ l, g1 l = g1' l) (hb1 : ∀ l, b1 l = b1' l) (hw1 : ∀ d j, w1 d j = w1' d j) (hc1 : ∀ j, c1 j = c1' j)
    (hw2 : ∀ j l, w2 j l = w2' j l) (hc2 : ∀ l, c2 l = c2' l) (hg2 : ∀ l, g2 l = g2' l) (hb2 : ∀ l, b2 l = b2' l) (l : Fin 768) :
    rest x a g1 b1 w1 c1 w2 c2 g2 b2 l = rest x' a' g1' b1' w1' c1' w2' c2' g2' b2' l := by
  rw [funext hx, funext ha, funext hg1, funext hb1, (funext fun d => funext (hw1 d) : w1 = w1'), funext hc1,
    (funext fun j => funext (hw2 j) : w2 = w2'), funext hc2, funext hg2, funext hb2]

/-- THE KERNEL'S RESULT is the layer of the arguments, where the projected queries and keys are real numbers. -/
theorem kernel_value
    (hq : ∀ r h e, IsReal (projHead (arg m c main_arg0) (arg m c main_arg1) (arg m c main_arg2) r h e))
    (hk : ∀ r h e, IsReal (projHead (arg m c main_arg0) (arg m c main_arg3) (arg m c main_arg4) r h e)) (r : Fin 2048) (l : Fin 768) :
    W5 m ρ c (Proc.devRef .tc main_v0) (ix3 0 r l)
      = layer (arg m c main_arg0) (arg m c main_arg1) (arg m c main_arg2) (arg m c main_arg3) (arg m c main_arg4) (arg m c main_arg5)
          (arg m c main_arg6) (arg m c main_arg7) (arg m c main_arg8) (arg m c main_arg9) (arg m c main_arg10) (arg m c main_arg11)
          (arg m c main_arg12) (arg m c main_arg13) (arg m c main_arg14) (arg m c main_arg15) (arg m c main_arg16) r l := by
  rw [result_at, final1, v0_kept, v11_kept,
    final0 (V1 m ρ) c (fun r l => by rw [projq_at]; exact hq _ _ _) (fun r l => by rw [projk_at]; exact hk _ _ _)]
  have hc : ∀ d : Fin 768, attnAll (inX (V1 m ρ) c) (inWq (V1 m ρ) c) (inWk (V1 m ρ) c) (inWv (V1 m ρ) c) (inBq (V1 m ρ) c)
      (inBk (V1 m ρ) c) (inBv (V1 m ρ) c) (ix2 r d)
      = attended (arg m c main_arg0) (arg m c main_arg1) (arg m c main_arg2) (arg m c main_arg3) (arg m c main_arg4)
          (arg m c main_arg5) (arg m c main_arg6) r d := fun d => by
    refine (attnAll_apply _ _ _ _ _ _ _ r d).trans ?_
    have eq : (fun (r : Fin 2048) e => projAll (inX (V1 m ρ) c) (inWq (V1 m ρ) c) (inBq (V1 m ρ) c) r (headLane d e))
        = fun r e => projHead (arg m c main_arg0) (arg m c main_arg1) (arg m c main_arg2) r (headOf d) e := by
      funext r e; rw [projq_at, headOf_headLane, laneOf_headLane]
    have ek : (fun (r : Fin 2048) e => projAll (inX (V1 m ρ) c) (inWk (V1 m ρ) c) (inBk (V1 m ρ) c) r (headLane d e))
        = fun r e => projHead (arg m c main_arg0) (arg m c main_arg3) (arg m c main_arg4) r (headOf d) e := by
      funext r e; rw [projk_at, headOf_headLane, laneOf_headLane]
    rw [eq, ek]
    exact congrArg (fun v => attend _ _ v r) (funext fun t => projv_at m ρ c t d)
  refine (restAll_apply _ _ _ _ _ _ _ _ _ _ _ _ r l).trans ?_
  exact rest_congr (fun l => v0_at m ρ c r l)
    (fun l => congrArg₂ (· + ·) (Finset.sum_congr rfl fun d _ => congrArg₂ (· * ·) (hc d) (v13_at m ρ c d l)) (v14_at m ρ c l))
    (v15_at m ρ c) (v16_at m ρ c) (v17_at m ρ c) (v18_at m ρ c) (v19_at m ρ c) (v20_at m ρ c) (v21_at m ρ c) (v22_at m ρ c) l

end Cert.Attn
-- ==== Proof.Finite.lean ====
/- The precondition read back: what the queries and keys are made of are real numbers, so they are. -/
module

public import proofs.«01_k».proof.Proof.Host
public import proofs.«01_k».proof.Proof.Gen.Pre_finite
public import Idealize.ShloMosaic.Lib.ReduceAll
public import Idealize.ShloMosaic.Lib.Pointwise

@[expose] public section

set_option maxRecDepth 16384

noncomputable section

namespace Cert.Attn

open Idealize.ShloMosaic Idealize.ShloMosaic.TcCoe Idealize.ShloMosaic.Tactic
open Cert.Pre_finite

/-- A number whose absolute value is below plus infinity is real. -/
theorem real_of_abs_lt (x : EReal) (h : max x (-x) < ⊤) : IsReal x := by
  induction x with
  | bot => simp at h
  | top => simp at h
  | coe r => exact ⟨r, rfl⟩

instance : Subsingleton S_.Idx := ⟨fun a b => funext fun i => i.elim0⟩

/-- The test that the precondition makes of an array, at an element. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  apply real_of_abs_lt
  have h' : Ideal.cmp .olt (max (x i) (-(x i))) (Ideal.ofBits .f32 0x7F800000#32) = 1#1 := h
  rw [lit_top] at h'
  by_contra hn
  simp [Ideal.cmp, hn] at h'

/-- THE PRECONDITION, at the elements of the five arrays it is about. -/
theorem of_pre (a0 : FVec Ideal S1x2048x768 .f32) (a1 : FVec Ideal S768x12x64 .f32) (a2 : FVec Ideal S12x64 .f32)
    (a3 : FVec Ideal S768x12x64 .f32) (a4 : FVec Ideal S12x64 .f32) (a5 : FVec Ideal S768x12x64 .f32) (a6 : FVec Ideal S12x64 .f32)
    (a7 : FVec Ideal S12x64x768 .f32) (a8 a9 a10 a11 a12 : FVec Ideal S768 .f32) (a13 : FVec Ideal S768x3072 .f32)
    (a14 : FVec Ideal S3072 .f32) (a15 : FVec Ideal S3072x768 .f32) (a16 : FVec Ideal S768 .f32) (j : S_.Idx)
    (h : fn a0 a1 a2 a3 a4 a5 a6 a7 a8 a9 a10 a11 a12 a13 a14 a15 a16 j = 1#1) :
    (∀ i, IsReal (a0 i)) ∧ (∀ i, IsReal (a1 i)) ∧ (∀ i, IsReal (a2 i)) ∧ (∀ i, IsReal (a3 i)) ∧ ∀ i, IsReal (a4 i) := by
  obtain ⟨h, h4⟩ := IntOp.andi_eq_one.1 (show IntOp.andi _ _ = 1#1 from h)
  obtain ⟨h, h3⟩ := IntOp.andi_eq_one.1 (show IntOp.andi _ _ = 1#1 from h)
  obtain ⟨h, h2⟩ := IntOp.andi_eq_one.1 (show IntOp.andi _ _ = 1#1 from h)
  obtain ⟨h0, h1⟩ := IntOp.andi_eq_one.1 (show IntOp.andi _ _ = 1#1 from h)
  exact ⟨fun i => real_of_test a0 _ i (Host.reduce_andi_all _ _ _ _ j h0 i), fun i => real_of_test a1 _ i (Host.reduce_andi_all _ _ _ _ j h1 i),
    fun i => real_of_test a2 _ i (Host.reduce_andi_all _ _ _ _ j h2 i), fun i => real_of_test a3 _ i (Host.reduce_andi_all _ _ _ _ j h3 i),
    fun i => real_of_test a4 _ i (Host.reduce_andi_all _ _ _ _ j h4 i)⟩

/-- A projection of real numbers is a real number. -/
theorem real_projHead (x : S1x2048x768.Idx → EReal) (w : S768x12x64.Idx → EReal) (b : S12x64.Idx → EReal) (hx : ∀ i, IsReal (x i))
    (hw : ∀ i, IsReal (w i)) (hb : ∀ i, IsReal (b i)) (r : Fin 2048) (h : Fin 12) (e : Fin 64) : IsReal (projHead x w b r h e) := by
  unfold projHead
  exact (IsReal.sum fun d => (hx _).mul (hw _)).add (hb _)

end Cert.Attn
-- ==== Proof.Ref.lean ====
/- The reference's stages, each read at an index, and its result as the layer of its arguments. -/
module

public import proofs.«01_k».proof.Proof.Host
public import proofs.«01_k».proof.Proof.Gen.ReferenceIdeal.Run
public import Idealize.ShloMosaic.Lib.Pointwise

@[expose] public section

set_option maxRecDepth 16384

noncomputable section

namespace Cert.Attn.Ref

open Idealize.ShloMosaic Idealize.ShloMosaic.TcCoe Idealize.ShloMosaic.Tactic
open Cert.ReferenceIdeal Cert.ReferenceIdeal.Gen Cert.ReferenceIdeal.Value

/-! ## The mask -/

/-- The reference's table of block pairs holds the pairs that the kernel visits. -/
theorem table_at : ∀ i j : Fin 32, lit0 (S32x32.rowMajor (ix2 i j)) = if seen i.val j.val then 1#1 else 0#1 := by
  decide +kernel

/-! ## The softmax -/

/-- The maximum of a row of scores. -/
theorem rowMax_at (x : FVec Ideal S1x12x2048x2048 .f32) (h : Fin 12) (r : Fin 2048) :
    Host.reduce FloatOps.maximumf x (constant S_ .f32 0xFF800000#32) reducesTo_S1x12x2048x2048_S1x12x2048_d3 h_S_ (ix3 0 h r)
      = Finset.univ.fold max (Ideal.ofBits .f32 0xFF800000#32) fun t => x (ix4 0 h r t) := by
  rw [Host.reduce_eq_fold]
  exact Shape.ReducesTo.fold_fiber_r4_a3 _ _ _ _ _

/-- The exponential of scores less a value of each row. -/
theorem shifted_at (M : FVec Ideal S1x12x2048 .f32) (s : FVec Ideal S1x12x2048x2048 .f32) (h : Fin 12) (r t : Fin 2048) :
    Host.exp (subf s (broadcastInDim S1x12x2048x2048 ![0, 1, 2, 3] bcast_S1x12x2048x1_S1x12x2048x2048_0_1_2_3
        (broadcastInDim S1x12x2048x1 ![0, 1, 2] bcast_S1x12x2048_S1x12x2048x1_0_1_2
          (maximumf (broadcastInDim S1x12x2048 ![] bcast_S_S1x12x2048 (constant S_ .f32 0xFF800000#32)) M))))
        (ix4 0 h r t)
      = Ideal.exp (s (ix4 0 h r t) - max (Ideal.ofBits .f32 0xFF800000#32) (M (ix3 0 h r))) := by
  pointwise []

/-- The exponential of a row of scores less the row's maximum. -/
theorem exp_at (s : FVec Ideal S1x12x2048x2048 .f32) (h : Fin 12) (r t : Fin 2048) :
    Host.exp (subf s (broadcastInDim S1x12x2048x2048 ![0, 1, 2, 3] bcast_S1x12x2048x1_S1x12x2048x2048_0_1_2_3
        (broadcastInDim S1x12x2048x1 ![0, 1, 2] bcast_S1x12x2048_S1x12x2048x1_0_1_2
          (maximumf (broadcastInDim S1x12x2048 ![] bcast_S_S1x12x2048 (constant S_ .f32 0xFF800000#32))
            (Host.reduce FloatOps.maximumf s (constant S_ .f32 0xFF800000#32) reducesTo_S1x12x2048x2048_S1x12x2048_d3 h_S_)))))
        (ix4 0 h r t)
      = Ideal.exp (s (ix4 0 h r t) - top fun t => s (ix4 0 h r t)) := by
  rw [shifted_at, rowMax_at, lit_bot, max_bot_left]
  rfl

/-! ## The norm -/

/-- A row normed as the reference writes it. -/
theorem norm_at (x : FVec Ideal S1x2048x768 .f32) (g b : FVec Ideal S768 .f32) (mu : FVec Ideal S1x2048x1 .f32)
    (z : FVec Ideal S1x2048x768 .f32)
    (hmu : mu = Host.divf (broadcastInDim S1x2048x1 ![0, 1] bcast_S1x2048_S1x2048x1_0_1
      (Host.reduceAdd x (constant S_ .f32 0x00000000#32) reducesTo_S1x2048x768_S1x2048_d2 h_S_))
      (broadcastInDim S1x2048x1 ![] bcast_S_S1x2048x1 (constant S_ .f32 0x44400000#32)))
    (hz : z = subf x (broadcastInDim S1x2048x768 ![0, 1, 2] bcast_S1x2048x1_S1x2048x768_0_1_2 mu)) (r : Fin 2048) (l : Fin 768) :
    addf (mulf (Host.divf (subf x (broadcastInDim S1x2048x768 ![0, 1, 2] bcast_S1x2048x1_S1x2048x768_0_1_2 mu))
      (broadcastInDim S1x2048x768 ![0, 1, 2] bcast_S1x2048x1_S1x2048x768_0_1_2
        (Host.sqrt (addf (Host.divf (broadcastInDim S1x2048x1 ![0, 1] bcast_S1x2048_S1x2048x1_0_1
          (Host.reduceAdd (mulf z z) (constant S_ .f32 0x00000000#32) reducesTo_S1x2048x768_S1x2048_d2 h_S_))
          (broadcastInDim S1x2048x1 ![] bcast_S_S1x2048x1 (constant S_ .f32 0x44400000#32)))
          (broadcastInDim S1x2048x1 ![] bcast_S_S1x2048x1 (constant S_ .f32 0x358637BD#32))))))
      (broadcastInDim S1x2048x768 ![0, 1, 2] bcast_S1x1x768_S1x2048x768_0_1_2 (broadcastInDim S1x1x768 ![2] bcast_S768_S1x1x768_2 g)))
      (broadcastInDim S1x2048x768 ![0, 1, 2] bcast_S1x1x768_S1x2048x768_0_1_2 (broadcastInDim S1x1x768 ![2] bcast_S768_S1x1x768_2 b))
      (ix3 0 r l)
      = norm (fun l => x (ix3 0 r l)) (fun l => g (ix1 l)) (fun l => b (ix1 l)) l := by
  subst hz hmu
  unfold norm mean; pointwise []

/-! ## The stages over the arguments -/

/-- A sum over lanes is the sum over the heads of the sums over a head's lanes. -/
theorem sum_heads (f : Fin 12 → Fin 64 → EReal) : ∑ h, ∑ e, f h e = ∑ d : Fin 768, f (headOf d) (laneOf d) := by
  rw [← Fintype.sum_prod_type' f]
  refine (Fintype.sum_equiv
    { toFun := fun d => (headOf d, laneOf d)
      invFun := fun p => ⟨64 * p.1.val + p.2.val, by omega⟩
      left_inv := fun d => Fin.ext (by show 64 * (d.val / 64) + d.val % 64 = d.val; omega)
      right_inv := fun p => Prod.ext (Fin.ext (by show (64 * p.1.val + p.2.val) / 64 = p.1.val; omega))
        (Fin.ext (by show (64 * p.1.val + p.2.val) % 64 = p.2.val; omega)) } _ _ fun d => rfl).symm

theorem projHead_comm (x : S1x2048x768.Idx → EReal) (w : S768x12x64.Idx → EReal) (b : S12x64.Idx → EReal) (r : Fin 2048)
    (h : Fin 12) (e : Fin 64) : ∑ d : Fin 768, w (ix3 d h e) * x (ix3 0 r d) + b (ix2 h e) = projHead x w b r h e := by
  unfold projHead; simp only [mul_comm]

variable (V : Valuation τ sig (Elt Ideal))

abbrev aX : S1x2048x768.Idx → EReal := V (Proc.devRef .tc main_arg0)
abbrev aWq : S768x12x64.Idx → EReal := V (Proc.devRef .tc main_arg1)
abbrev aBq : S12x64.Idx → EReal := V (Proc.devRef .tc main_arg2)
abbrev aWk : S768x12x64.Idx → EReal := V (Proc.devRef .tc main_arg3)
abbrev aBk : S12x64.Idx → EReal := V (Proc.devRef .tc main_arg4)
abbrev aWv : S768x12x64.Idx → EReal := V (Proc.devRef .tc main_arg5)
abbrev aBv : S12x64.Idx → EReal := V (Proc.devRef .tc main_arg6)
abbrev aWo : S12x64x768.Idx → EReal := V (Proc.devRef .tc main_arg7)
abbrev aBo : S768.Idx → EReal := V (Proc.devRef .tc main_arg8)
abbrev aG1 : S768.Idx → EReal := V (Proc.devRef .tc main_arg9)
abbrev aB1 : S768.Idx → EReal := V (Proc.devRef .tc main_arg10)
abbrev aG2 : S768.Idx → EReal := V (Proc.devRef .tc main_arg11)
abbrev aB2 : S768.Idx → EReal := V (Proc.devRef .tc main_arg12)
abbrev aW1 : S768x3072.Idx → EReal := V (Proc.devRef .tc main_arg13)
abbrev aC1 : S3072.Idx → EReal := V (Proc.devRef .tc main_arg14)
abbrev aW2 : S3072x768.Idx → EReal := V (Proc.devRef .tc main_arg15)
abbrev aC2 : S768.Idx → EReal := V (Proc.devRef .tc main_arg16)

/-- The masked scores of a row. -/
def masked (h : Fin 12) (r t : Fin 2048) : EReal :=
  if seen (r.val / 64) (t.val / 64) then score (projHead (aX V) (aWq V) (aBq V) r h) (projHead (aX V) (aWk V) (aBk V) t h) else ⊥

theorem v23_at (h : Fin 12) (r t : Fin 2048) : @Eq EReal (res_main_v23 V (ix4 0 h r t)) (masked V h r t) := by
  unfold res_main_v23; pointwise []
  rw [table_at]
  unfold masked score
  simp only [← projHead_comm]
  show Scalar.select _ _ (Ideal.ofBits .f32 0xFF800000#32) = _
  rw [lit_bot]
  by_cases hs : seen (r.val / 64) (t.val / 64) = true <;> simp [hs, Scalar.select]

theorem v30_at (h : Fin 12) (r t : Fin 2048) :
    @Eq EReal (res_main_v30 V (ix4 0 h r t)) (Ideal.exp (masked V h r t - top (masked V h r))) := by
  refine Eq.trans (exp_at (res_main_v23 V) h r t) ?_
  rw [show (fun t => res_main_v23 V (ix4 0 h r t)) = masked V h r from funext fun t => v23_at V h r t]
  exact congrArg (fun s : EReal => Ideal.exp (s - top (masked V h r))) (v23_at V h r t)

/-- The attended values, over the lanes of all heads. -/
abbrev ctx (r : Fin 2048) (d : Fin 768) : EReal := attended (aX V) (aWq V) (aBq V) (aWk V) (aBk V) (aWv V) (aBv V) r d

theorem ctx_eq (r : Fin 2048) (d : Fin 768) :
    (∑ t : Fin 2048, projHead (aX V) (aWv V) (aBv V) t (headOf d) (laneOf d)
      * Ideal.div (Ideal.exp (masked V (headOf d) r t - top (masked V (headOf d) r)))
          (∑ t, Ideal.exp (masked V (headOf d) r t - top (masked V (headOf d) r)))) = ctx V r d :=
  Finset.sum_congr rfl fun t _ => mul_comm _ _

/-- The input plus the projected attended values. -/
theorem v41_at (r : Fin 2048) (l : Fin 768) : @Eq EReal (res_main_v41 V (ix3 0 r l))
    (aX V (ix3 0 r l) + (∑ d : Fin 768, ctx V r d * aWo V (ix3 (headOf d) (laneOf d) l) + aBo V (ix1 l))) := by
  unfold res_main_v41; pointwise []
  simp only [← ctx_eq, ← projHead_comm]
  rw [← sum_heads fun h e => (∑ t : Fin 2048, (∑ d : Fin 768, aWv V (ix3 d h e) * aX V (ix3 0 t d) + aBv V (ix2 h e))
    * Ideal.div (Ideal.exp (masked V h r t - top (masked V h r))) (∑ t, Ideal.exp (masked V h r t - top (masked V h r))))
    * aWo V (ix3 h e l)]
  simp only [← v30_at]

/-- The row after the first norm. -/
theorem v65_at (r : Fin 2048) (l : Fin 768) : @Eq EReal (res_main_v65 V (ix3 0 r l))
    (first (fun l => aX V (ix3 0 r l)) (fun l => ∑ d : Fin 768, ctx V r d * aWo V (ix3 (headOf d) (laneOf d) l) + aBo V (ix1 l))
      (fun l => aG1 V (ix1 l)) (fun l => aB1 V (ix1 l)) l) := by
  refine Eq.trans (norm_at (res_main_v41 V) (aG1 V) (aB1 V) (res_main_v45 V) (res_main_v47 V) rfl rfl r l) ?_
  unfold first
  exact congrArg (fun x => norm x _ _ l) (funext fun l => v41_at V r l)

/-- The row before the second norm. -/
theorem v75_at (r : Fin 2048) (l : Fin 768) : @Eq EReal (res_main_v75 V (ix3 0 r l))
    ((fun o : Fin 768 → EReal => o l + network o (fun d j => aW1 V (ix2 d j)) (fun j => aC1 V (ix1 j))
      (fun j l => aW2 V (ix2 j l)) (fun l => aC2 V (ix1 l)) l) fun l => res_main_v65 V (ix3 0 r l)) := by
  unfold res_main_v75 network; pointwise []

/-- THE REFERENCE'S RESULT, its second norm, is the layer of the arguments. -/
theorem layer_at (r : Fin 2048) (l : Fin 768) :
    norm (fun l => res_main_v75 V (ix3 0 r l)) (fun l => aG2 V (ix1 l)) (fun l => aB2 V (ix1 l)) l
      = layer (aX V) (aWq V) (aBq V) (aWk V) (aBk V) (aWv V) (aBv V) (aWo V) (aBo V) (aG1 V) (aB1 V) (aG2 V) (aB2 V) (aW1 V)
          (aC1 V) (aW2 V) (aC2 V) r l := by
  rw [show (fun l => res_main_v75 V (ix3 0 r l)) = _ from funext fun l => v75_at V r l,
    show (fun l => res_main_v65 V (ix3 0 r l)) = _ from funext fun l => v65_at V r l]
  rfl

end Cert.Attn.Ref
-- ==== Proof.Equal.lean ====
/- The equation: the kernel and the reference, run from memories that agree on the arguments, end with the same result. -/
module

public import proofs.«01_k».proof.Defs
public import proofs.«01_k».proof.Proof.Gen.Kernel
public import proofs.«01_k».proof.Proof.Run
public import proofs.«01_k».proof.Proof.Finite
public import proofs.«01_k».proof.Proof.Ref

@[expose] public section

set_option maxRecDepth 16384

noncomputable section

namespace Cert.Attn

open Idealize.ShloMosaic Idealize.ShloMosaic.TcCoe Idealize.SL.Sem Idealize.ShloMosaic.StableHlo
open Cert.KernelIdeal.Gen Cert.ReferenceIdeal.Value

variable (m : (ℓ : Loc KernelIdeal.nD KernelIdeal.τ KernelIdeal.sig) → Buf (Elt Ideal) ℓ) (g : Dev KernelIdeal.nD → PrngReg)

/-- Under the precondition the projected queries are real numbers. -/
theorem real_q (hp : Cert.Pre_KernelIdeal_finite m) (c : Dev KernelIdeal.nD) (r : Fin 2048) (h : Fin 12) (e : Fin 64) :
    IsReal (projHead (arg m c KernelIdeal.main_arg0) (arg m c KernelIdeal.main_arg1) (arg m c KernelIdeal.main_arg2) r h e) := by
  obtain ⟨h0, h1, h2, -, -⟩ := of_pre _ _ _ _ _ _ _ _ _ _ _ _ _ _ _ _ _ ix0 (congrFun (hp c) ix0)
  exact real_projHead _ _ _ h0 h1 h2 r h e

/-- Under the precondition the projected keys are real numbers. -/
theorem real_k (hp : Cert.Pre_KernelIdeal_finite m) (c : Dev KernelIdeal.nD) (r : Fin 2048) (h : Fin 12) (e : Fin 64) :
    IsReal (projHead (arg m c KernelIdeal.main_arg0) (arg m c KernelIdeal.main_arg3) (arg m c KernelIdeal.main_arg4) r h e) := by
  obtain ⟨h0, -, -, h3, h4⟩ := of_pre _ _ _ _ _ _ _ _ _ _ _ _ _ _ _ _ _ ix0 (congrFun (hp c) ix0)
  exact real_projHead _ _ _ h0 h3 h4 r h e

/-- THE EQUATION: kernel and reference compute the same function over the extended reals. -/
theorem algebraic : Cert.algebraic_KernelIdeal_ReferenceIdeal_pre_finite := by
  intro m g m' g' hp ha
  refine ⟨fun c => W5 m g c (Proc.devRef .tc KernelIdeal.main_v0), ?_, ?_⟩
  · refine (θ_run KernelIdeal.defs _ _).mono (fun r h c => ?_) (kernel_run m g)
    exact ⟨h c _ (mem_uc KernelIdeal.main_v0 (by decide)),
      kept m g (h c) KernelIdeal.main_arg0 (mem_uc _ (by decide)) (by decide),
      kept m g (h c) KernelIdeal.main_arg1 (mem_uc _ (by decide)) (by decide),
      kept m g (h c) KernelIdeal.main_arg2 (mem_uc _ (by decide)) (by decide),
      kept m g (h c) KernelIdeal.main_arg3 (mem_uc _ (by decide)) (by decide),
      kept m g (h c) KernelIdeal.main_arg4 (mem_uc _ (by decide)) (by decide),
      kept m g (h c) KernelIdeal.main_arg5 (mem_uc _ (by decide)) (by decide),
      kept m g (h c) KernelIdeal.main_arg6 (mem_uc _ (by decide)) (by decide),
      kept m g (h c) KernelIdeal.main_arg7 (mem_uc _ (by decide)) (by decide),
      kept m g (h c) KernelIdeal.main_arg8 (mem_uc _ (by decide)) (by decide),
      kept m g (h c) KernelIdeal.main_arg9 (mem_uc _ (by decide)) (by decide),
      kept m g (h c) KernelIdeal.main_arg10 (mem_uc _ (by decide)) (by decide),
      kept m g (h c) KernelIdeal.main_arg11 (mem_uc _ (by decide)) (by decide),
      kept m g (h c) KernelIdeal.main_arg12 (mem_uc _ (by decide)) (by decide),
      kept m g (h c) KernelIdeal.main_arg13 (mem_uc _ (by decide)) (by decide),
      kept m g (h c) KernelIdeal.main_arg14 (mem_uc _ (by decide)) (by decide),
      kept m g (h c) KernelIdeal.main_arg15 (mem_uc _ (by decide)) (by decide),
      kept m g (h c) KernelIdeal.main_arg16 (mem_uc _ (by decide)) (by decide)⟩
  · refine (θ_run ReferenceIdeal.defs _ _).mono (fun r h c => ?_) (run (F := Ideal) m' g')
    refine ⟨(h c).1.trans (funext fun i => ?_), (h c).2⟩
    obtain ⟨p, l, rfl⟩ : ∃ (p : Fin 2048) (l : Fin 768), i = ix3 0 p l :=
      ⟨i 1, i 2, by funext a; match a with | 0 => exact Subsingleton.elim (α := Fin 1) _ _ | 1 => rfl | 2 => rfl⟩
    obtain ⟨e0, e1, e2, e3, e4, e5, e6, e7, e8, e9, e10, e11, e12, e13, e14, e15, e16⟩ := ha c
    generalize hV : launchContents m' c = V
    refine Eq.trans (Ref.norm_at (res_main_v75 V) (Ref.aG2 V) (Ref.aB2 V) (res_main_v79 V) (res_main_v81 V) rfl rfl p l)
      ((Ref.layer_at V p l).trans (Eq.trans ?_ (kernel_value m g c (real_q m hp c) (real_k m hp c) p l).symm))
    subst hV
    rw [show Ref.aX (launchContents m' c) = arg m c KernelIdeal.main_arg0 from e0,
    show Ref.aWq (launchContents m' c) = arg m c KernelIdeal.main_arg1 from e1,
    show Ref.aBq (launchContents m' c) = arg m c KernelIdeal.main_arg2 from e2,
    show Ref.aWk (launchContents m' c) = arg m c KernelIdeal.main_arg3 from e3,
    show Ref.aBk (launchContents m' c) = arg m c KernelIdeal.main_arg4 from e4,
    show Ref.aWv (launchContents m' c) = arg m c KernelIdeal.main_arg5 from e5,
    show Ref.aBv (launchContents m' c) = arg m c KernelIdeal.main_arg6 from e6,
    show Ref.aWo (launchContents m' c) = arg m c KernelIdeal.main_arg7 from e7,
    show Ref.aBo (launchContents m' c) = arg m c KernelIdeal.main_arg8 from e8,
    show Ref.aG1 (launchContents m' c) = arg m c KernelIdeal.main_arg9 from e9,
    show Ref.aB1 (launchContents m' c) = arg m c KernelIdeal.main_arg10 from e10,
    show Ref.aG2 (launchContents m' c) = arg m c KernelIdeal.main_arg11 from e11,
    show Ref.aB2 (launchContents m' c) = arg m c KernelIdeal.main_arg12 from e12,
    show Ref.aW1 (launchContents m' c) = arg m c KernelIdeal.main_arg13 from e13,
    show Ref.aC1 (launchContents m' c) = arg m c KernelIdeal.main_arg14 from e14,
    show Ref.aW2 (launchContents m' c) = arg m c KernelIdeal.main_arg15 from e15,
    show Ref.aC2 (launchContents m' c) = arg m c KernelIdeal.main_arg16 from e16]

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel over machine floats runs, keeps its arguments and ends with every counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference: its run read at the arguments; it declares no counter. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewritten constant: -1e9 is read as the named value "mask", whose meaning is minus infinity. -/
theorem preserves : Cert.preserves_Kernel_KernelIdeal :=
  IdealRules.named_const.statement Cert.KernelIdeal.κ "mask" .f32 0xCE6E6B28#32 ⊥ rfl

/-- Everything the certificate claims. -/
theorem claim : Cert.Claim := ⟨Cert.Kernel.Gen.facts, Cert.KernelIdeal.Gen.facts, Cert.ReferenceIdeal.Gen.facts,
  Cert.Pre_finite.Gen.facts,
  frame_kernel, frame_kernelIdeal, fun m ρ _ => frame_kernelIdeal m ρ trivial, frame_referenceIdeal,
  fun m ρ _ => frame_referenceIdeal m ρ trivial, preserves, Cert.Attn.algebraic⟩

end Cert.Proof

end
